-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6_4) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x32 : Shape := ⟨2, ![4096, 32]⟩
abbrev S512x32 : Shape := ⟨2, ![512, 32]⟩
abbrev S4096x1 : Shape := ⟨2, ![4096, 1]⟩
abbrev S512x1 : Shape := ⟨2, ![512, 1]⟩
abbrev S32x4096 : Shape := ⟨2, ![32, 4096]⟩
abbrev S8x4096 : Shape := ⟨2, ![8, 4096]⟩
abbrev S40x4096 : Shape := ⟨2, ![40, 4096]⟩
abbrev S4096 : Shape := ⟨1, ![4096]⟩
abbrev S4096x512 : Shape := ⟨2, ![4096, 512]⟩
abbrev S32x512 : Shape := ⟨2, ![32, 512]⟩
abbrev S1x512 : Shape := ⟨2, ![1, 512]⟩
abbrev S512 : Shape := ⟨1, ![512]⟩
abbrev S40x512 : Shape := ⟨2, ![40, 512]⟩
abbrev S1x32x512 : Shape := ⟨3, ![1, 32, 512]⟩
abbrev S1 : Shape := ⟨1, ![1]⟩
abbrev S1x1x1 : Shape := ⟨3, ![1, 1, 1]⟩

abbrev nBuf : Space → Nat
  | .hbm => 6
  | .vmem => 5
  | .smem => 0
  | _ => 0

abbrev bufTy : (tb : Table) → Fin (tcTables nBuf tb) → BufTy
  | .hbm, ⟨0, _⟩ => ⟨S4096x32, .f32⟩
  | .hbm, ⟨1, _⟩ => ⟨S512x32, .f32⟩
  | .hbm, ⟨2, _⟩ => ⟨S512x32, .f32⟩
  | .hbm, ⟨3, _⟩ => ⟨S4096x1, .i32⟩
  | .hbm, ⟨4, _⟩ => ⟨S512x1, .f32⟩
  | .hbm, ⟨5, _⟩ => ⟨S4096, .i32⟩
  | .local _ .vmem, ⟨0, _⟩ => ⟨S4096x32, .f32⟩
  | .local _ .vmem, ⟨1, _⟩ => ⟨S512x32, .f32⟩
  | .local _ .vmem, ⟨2, _⟩ => ⟨S512x32, .f32⟩
  | .local _ .vmem, ⟨3, _⟩ => ⟨S4096x1, .i32⟩
  | .local _ .vmem, ⟨4, _⟩ => ⟨S512x1, .f32⟩
  | _, _ => ⟨S4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x32 : Shape := ⟨2, ![4096, 32]⟩
abbrev S512x32 : Shape := ⟨2, ![512, 32]⟩
abbrev S_ : Shape := ⟨0, ![]⟩
abbrev S4096x1 : Shape := ⟨2, ![4096, 1]⟩
abbrev S4096 : Shape := ⟨1, ![4096]⟩
abbrev S1000x4096 : Shape := ⟨2, ![1000, 4096]⟩
abbrev S1000x512x1 : Shape := ⟨3, ![1000, 512, 1]⟩
abbrev S512 : Shape := ⟨1, ![512]⟩
abbrev S1x512 : Shape := ⟨2, ![1, 512]⟩
abbrev S32x512 : Shape := ⟨2, ![32, 512]⟩
abbrev S4096x512 : Shape := ⟨2, ![4096, 512]⟩
abbrev S512x1 : Shape := ⟨2, ![512, 1]⟩
abbrev S1x4096 : Shape := ⟨2, ![1, 4096]⟩
abbrev S1x512x1 : Shape := ⟨3, ![1, 512, 1]⟩

abbrev nBuf : Space → Nat
  | .hbm => 80
  | .vmem => 0
  | .smem => 0
  | _ => 0

abbrev bufTy : (tb : Table) → Fin (tcTables nBuf tb) → BufTy
  | .hbm, ⟨0, _⟩ => ⟨S4096x32, .f32⟩
  | .hbm, ⟨1, _⟩ => ⟨S512x32, .f32⟩
  | .hbm, ⟨2, _⟩ => ⟨S_, .f32⟩
  | .hbm, ⟨3, _⟩ => ⟨S4096x1, .f32⟩
  | .hbm, ⟨4, _⟩ => ⟨S4096x32, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .i32⟩
  | .hbm, ⟨9, _⟩ => ⟨S1000x4096, .i32⟩
  | .hbm, ⟨10, _⟩ => ⟨S_, .f32⟩
  | .hbm, ⟨11, _⟩ => ⟨S1000x512x1, .f32⟩
  | .hbm, ⟨12, _⟩ => ⟨S_, .i32⟩
  | .hbm, ⟨13, _⟩ => ⟨S4096x32, .f32⟩
  | .hbm, ⟨14, _⟩ => ⟨S4096x1, .f32⟩
  | .hbm, ⟨15, _⟩ => ⟨S4096x1, .f32⟩
  | .hbm, ⟨16, _⟩ => ⟨S_, .i32⟩
  | .hbm, ⟨17, _⟩ => ⟨S512x32, .f32⟩
  | .hbm, ⟨18, _⟩ => ⟨S1000x4096, .i32⟩
  | .hbm, ⟨19, _⟩ => ⟨S1000x512x1, .f32⟩
  | .hbm, ⟨20, _⟩ => ⟨S_, .i32⟩
  | .hbm, ⟨21, _⟩ => ⟨S_, .i1⟩
  | .hbm, ⟨22, _⟩ => ⟨S512x32, .f32⟩
  | .hbm, ⟨23, _⟩ => ⟨S_, .f32⟩
  | .hbm, ⟨24, _⟩ => ⟨S512, .f32⟩
  | .hbm, ⟨25, _⟩ => ⟨S1x512, .f32⟩
  | .hbm, ⟨26, _⟩ => ⟨S32x512, .f32⟩
  | .hbm, ⟨27, _⟩ => ⟨S4096x512, .f32⟩
  | .hbm, ⟨28, _⟩ => ⟨S_, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .i32⟩
  | .hbm, ⟨36, _⟩ => ⟨S_, .f32⟩
  | .hbm, ⟨37, _⟩ => ⟨S_, .i32⟩
  | .hbm, ⟨38, _⟩ => ⟨S4096, .f32⟩
  | .hbm, ⟨39, _⟩ => ⟨S4096, .i32⟩
  | .hbm, ⟨40, _⟩ => ⟨S_, .f32⟩
  | .hbm, ⟨41, _⟩ => ⟨S512x32, .f32⟩
  | .hbm, ⟨42, _⟩ => ⟨S_, .i32⟩
  | .hbm, ⟨43, _⟩ => ⟨S4096, .i32⟩
  | .hbm, ⟨44, _⟩ => ⟨S4096, .i1⟩
  | .hbm, ⟨45, _⟩ => ⟨S_, .i32⟩
  | .hbm, ⟨46, _⟩ => ⟨S4096, .i32⟩
  | .hbm, ⟨47, _⟩ => ⟨S4096, .i32⟩
  | .hbm, ⟨48, _⟩ => ⟨S4096, .i32⟩
  | .hbm, ⟨49, _⟩ => ⟨S4096x1, .i32⟩
  | .hbm, ⟨50, _⟩ => ⟨S512x32, .f32⟩
  | .hbm, ⟨51, _⟩ => ⟨S_, .f32⟩
  | .hbm, ⟨52, _⟩ => ⟨S512x1, .f32⟩
  | .hbm, ⟨53, _⟩ => ⟨S_, .i32⟩
  | .hbm, ⟨54, _⟩ => ⟨S4096, .i32⟩
  | .hbm, ⟨55, _⟩ => ⟨S4096, .i1⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S4096, .i32⟩
  | .hbm, ⟨60, _⟩ => ⟨S4096x1, .i32⟩
  | .hbm, ⟨61, _⟩ => ⟨S512x1, .f32⟩
  | .hbm, ⟨62, _⟩ => ⟨S_, .f32⟩
  | .hbm, ⟨63, _⟩ => ⟨S512x1, .f32⟩
  | .hbm, ⟨64, _⟩ => ⟨S512x1, .f32⟩
  | .hbm, ⟨65, _⟩ => ⟨S512x32, .f32⟩
  | .hbm, ⟨66, _⟩ => ⟨S512x32, .f32⟩
  | .hbm, ⟨67, _⟩ => ⟨S1x4096, .i32⟩
  | .hbm, ⟨68, _⟩ => ⟨S_, .i32⟩
  | .hbm, ⟨69, _⟩ => ⟨S1000x4096, .i32⟩
  | .hbm, ⟨70, _⟩ => ⟨S1x512x1, .f32⟩
  | .hbm, ⟨71, _⟩ => ⟨S_, .i32⟩
  | .hbm, ⟨72, _⟩ => ⟨S_, .i32⟩
  | .hbm, ⟨73, _⟩ => ⟨S1000x512x1, .f32⟩
  | .hbm, ⟨74, _⟩ => ⟨S_, .i32⟩
  | .hbm, ⟨75, _⟩ => ⟨S_, .i32⟩
  | .hbm, ⟨76, _⟩ => ⟨S1x4096, .i32⟩
  | .hbm, ⟨77, _⟩ => ⟨S4096, .i32⟩
  | .hbm, ⟨78, _⟩ => ⟨S1x512x1, .f32⟩
  | .hbm, ⟨79, _⟩ => ⟨S512x1, .f32⟩
  | _, _ => ⟨S4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_c_2 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev main_v6_5 : Ref sig .tc := ⟨.hbm, 18, rfl⟩
abbrev main_v6_6 : Ref sig .tc := ⟨.hbm, 19, rfl⟩
abbrev main_while0c_c_9 : Ref sig .tc := ⟨.hbm, 20, rfl⟩
abbrev main_while0c_v11 : Ref sig .tc := ⟨.hbm, 21, rfl⟩
abbrev main_while0b_v11 : Ref sig .tc := ⟨.hbm, 22, rfl⟩
abbrev main_while0b_cst_9 : Ref sig .tc := ⟨.hbm, 23, rfl⟩
abbrev main_while0b_v12 : Ref sig .tc := ⟨.hbm, 24, rfl⟩
abbrev main_while0b_v13 : Ref sig .tc := ⟨.hbm, 25, rfl⟩
abbrev main_while0b_v14 : Ref sig .tc := ⟨.hbm, 26, rfl⟩
abbrev main_while0b_v15 : Ref sig .tc := ⟨.hbm, 27, rfl⟩
abbrev main_while0b_cst_10 : Ref sig .tc := ⟨.hbm, 28, rfl⟩
abbrev main_while0b_v16 : Ref sig .tc := ⟨.hbm, 29, rfl⟩
abbrev main_while0b_v17 : Ref sig .tc := ⟨.hbm, 30, rfl⟩
abbrev main_while0b_v18 : Ref sig .tc := ⟨.hbm, 31, rfl⟩
abbrev main_while0b_v19 : Ref sig .tc := ⟨.hbm, 32, rfl⟩
abbrev main_while0b_v20 : Ref sig .tc := ⟨.hbm, 33, rfl⟩
abbrev main_while0b_v21 : Ref sig .tc := ⟨.hbm, 34, rfl⟩
abbrev main_while0b_call0_v0 : Ref sig .tc := ⟨.hbm, 35, rfl⟩
abbrev main_while0b_call0_cst : Ref sig .tc := ⟨.hbm, 36, rfl⟩
abbrev main_while0b_call0_c : Ref sig .tc := ⟨.hbm, 37, rfl⟩
abbrev main_while0b_call0_v1_0 : Ref sig .tc := ⟨.hbm, 38, rfl⟩
abbrev main_while0b_v22 : Ref sig .tc := ⟨.hbm, 39, rfl⟩
abbrev main_while0b_cst_11 : Ref sig .tc := ⟨.hbm, 40, rfl⟩
abbrev main_while0b_v23 : Ref sig .tc := ⟨.hbm, 41, rfl⟩
abbrev main_while0b_c_12 : Ref sig .tc := ⟨.hbm, 42, rfl⟩
abbrev main_while0b_v24 : Ref sig .tc := ⟨.hbm, 43, rfl⟩
abbrev main_while0b_v25 : Ref sig .tc := ⟨.hbm, 44, rfl⟩
abbrev main_while0b_c_13 : Ref sig .tc := ⟨.hbm, 45, rfl⟩
abbrev main_while0b_v26 : Ref sig .tc := ⟨.hbm, 46, rfl⟩
abbrev main_while0b_v27 : Ref sig .tc := ⟨.hbm, 47, rfl⟩
abbrev main_while0b_v28 : Ref sig .tc := ⟨.hbm, 48, rfl⟩
abbrev main_while0b_v29 : Ref sig .tc := ⟨.hbm, 49, rfl⟩
abbrev main_while0b_v30 : Ref sig .tc := ⟨.hbm, 50, rfl⟩
abbrev main_while0b_cst_14 : Ref sig .tc := ⟨.hbm, 51, rfl⟩
abbrev main_while0b_v31 : Ref sig .tc := ⟨.hbm, 52, rfl⟩
abbrev main_while0b_c_15 : Ref sig .tc := ⟨.hbm, 53, rfl⟩
abbrev main_while0b_v32 : Ref sig .tc := ⟨.hbm, 54, rfl⟩
abbrev main_while0b_v33 : Ref sig .tc := ⟨.hbm, 55, rfl⟩
abbrev main_while0b_c_16 : Ref sig .tc := ⟨.hbm, 56, rfl⟩
abbrev main_while0b_v34 : Ref sig .tc := ⟨.hbm, 57, rfl⟩
abbrev main_while0b_v35 : Ref sig .tc := ⟨.hbm, 58, rfl⟩
abbrev main_while0b_v36 : Ref sig .tc := ⟨.hbm, 59, rfl⟩
abbrev main_while0b_v37 : Ref sig .tc := ⟨.hbm, 60, rfl⟩
abbrev main_while0b_v38 : Ref sig .tc := ⟨.hbm, 61, rfl⟩
abbrev main_while0b_cst_17 : Ref sig .tc := ⟨.hbm, 62, rfl⟩
abbrev main_while0b_v39 : Ref sig .tc := ⟨.hbm, 63, rfl⟩
abbrev main_while0b_v40 : Ref sig .tc := ⟨.hbm, 64, rfl⟩
abbrev main_while0b_v41 : Ref sig .tc := ⟨.hbm, 65, rfl⟩
abbrev main_while0b_v42 : Ref sig .tc := ⟨.hbm, 66, rfl⟩
abbrev main_while0b_call1_v0 : Ref sig .tc := ⟨.hbm, 67, rfl⟩
abbrev main_while0b_call1_c : Ref sig .tc := ⟨.hbm, 68, rfl⟩
abbrev main_while0b_v43 : Ref sig .tc := ⟨.hbm, 69, rfl⟩
abbrev main_while0b_call2_v0 : Ref sig .tc := ⟨.hbm, 70, rfl⟩
abbrev main_while0b_call2_c : Ref sig .tc := ⟨.hbm, 71, rfl⟩
abbrev main_while0b_call2_c_0 : Ref sig .tc := ⟨.hbm, 72, rfl⟩
abbrev main_while0b_v44 : Ref sig .tc := ⟨.hbm, 73, rfl⟩
abbrev main_while0b_c_18 : Ref sig .tc := ⟨.hbm, 74, rfl⟩
abbrev main_while0b_v45 : Ref sig .tc := ⟨.hbm, 75, rfl⟩
abbrev main_v7 : Ref sig .tc := ⟨.hbm, 76, rfl⟩
abbrev main_v8 : Ref sig .tc := ⟨.hbm, 77, rfl⟩
abbrev main_v9 : Ref sig .tc := ⟨.hbm, 78, rfl⟩
abbrev main_v10 : Ref sig .tc := ⟨.hbm, 79, rfl⟩

abbrev nD : Nat := 1
abbrev τ : Topo := Topo.v7x

variable {F : FTy → Type} [FloatOps F]

abbrev main_while0_count : Scf.Loop 32 := ⟨0#32, 1000#32, 1#32⟩
-- ==== Proof.PI.Loop.lean ====
/-
  The `scf.while` of the kernel's body as a pure function, for every `FloatOps F`: the counter it is entered with when `n`
  trips are still allowed, the values it returns from any carried values (`go`), the specification of its label and that
  the label's body meets it. Nothing here depends on the memory.
-/
module

public import proofs.«01_k».proof.KernelIdeal
public import proofs.«01_k».proof.Proof.P.Run
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameSuffix

@[expose] public section

set_option maxRecDepth 16384

noncomputable section

namespace Cert.Proof.PI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-- The variants the label's calls descend along: the naturals. -/
abbrev 𝒱₀ : Variants := Variants.nat

/-- The five values the loop carries and returns: counter, centroids, indices, counts, the "unchanged" flag. -/
abbrev Carried (F : FTy → Type) : Type :=
  BitVec 32 × FVec F S32x512 .f32 × FVec F S4096x1 .f32 × FVec F S1x512 .f32 × BitVec 1

/-! ## The counter -/

/-- The counter when `n` more trips are allowed: 1000 less `n`. -/
def ctr (n : ℕ) : BitVec 32 := BitVec.ofNat 32 (1000 - n)

/-- The loop goes on exactly when a trip is still allowed and the flag is off. -/
theorem goes_on (n : ℕ) (hn : n ≤ 1000) (s : BitVec 1) :
    (Scalar.andi (Scalar.cmpi .slt (ctr n) 1000#32) (Scalar.xori s 1#1) = 1#1) ↔ (0 < n ∧ s = 0#1) := by
  have hs : s = 0#1 ∨ s = 1#1 := by
    revert s; decide
  have hslt : Scalar.cmpi .slt (ctr n) 1000#32 = BitVec.ofBool (decide (0 < n)) := by
    show BitVec.ofBool ((ctr n).slt 1000#32) = _
    congr 1
    have h1 : (ctr n).toInt = ((1000 - n : ℕ) : ℤ) := by
      unfold ctr
      show (BitVec.ofNat 32 (1000 - n) : BitVec 32).toInt = _
      rw [BitVec.toInt_eq_toNat_of_lt (by rw [BitVec.toNat_ofNat]; omega), BitVec.toNat_ofNat]
      omega
    rw [BitVec.slt, h1, show (1000#32 : BitVec 32).toInt = 1000 from by decide]
    rw [decide_eq_decide]
    omega
  rw [hslt]
  rcases hs with rfl | rfl <;> rcases Nat.eq_zero_or_pos n with h | h
  · subst h; decide
  · simp only [h, decide_true, _root_.true_and]; decide
  · subst h; decide
  · simp only [h, decide_true]; decide

/-- A trip steps the counter. -/
theorem ctr_step (n : ℕ) (hn : n + 1 ≤ 1000) : Scalar.addi (ctr (n + 1)) 1#32 = ctr n := by
  unfold ctr
  show BitVec.ofNat 32 (1000 - (n + 1)) + BitVec.ofNat 32 1 = _
  rw [← BitVec.ofNat_add, show 1000 - (n + 1) + 1 = 1000 - n from by omega]

/-! ## What the loop computes -/

section Pure

variable (v0 : Vec F S4096x32 .f32) (v8 v10 : FVec F S4096x512 .f32) (v3 : FVec F S40x4096 .f32)

/-- Whether a trip from centroids `c` leaves them as they are, as the bit the kernel computes. -/
def same (c : FVec F S32x512 .f32) : BitVec 1 :=
  Scalar.cmpf .ogt (k0_pay14 v0 v8 v10 v3 c) (Scalar.ofBits .f32 0x00000000#32)

/-- The values the loop returns when entered with centroids `c`, indices `x`, counts `k` and flag `s`, `n` more trips
    allowed: a trip assigns every row, recomputes the centroids and the counts, and stops the loop when the centroids
    did not change. -/
def go : ℕ → FVec F S32x512 .f32 → FVec F S4096x1 .f32 → FVec F S1x512 .f32 → BitVec 1 → Carried F
  | 0, c, x, k, s => (ctr 0, c, x, k, s)
  | n + 1, c, x, k, s =>
    if s = 0#1 then
      go n (k0_pay13 v0 v8 v10 v3 c) (k0_pay10 v0 v8 v10 c) (k0_pay12 v0 v8 v10 v3 c) (same v0 v8 v10 v3 c)
    else (ctr (n + 1), c, x, k, s)

end Pure

/-! ## The label's specification -/

/-- The specification of the label with `n` trips allowed: holding nothing, return `go n`. -/
def spec (v0 : Vec F S4096x32 .f32) (v8 v10 : FVec F S4096x512 .f32) (v3 : FVec F S40x4096 .f32) (n : ℕ)
    (c : FVec F S32x512 .f32) (x : FVec F S4096x1 .f32) (k : FVec F S1x512 .f32) (s : BitVec 1) : sWPT 𝕄 (Carried F) :=
  pure (go v0 v8 v10 v3 n c x k s)

theorem spec_apply (v0 : Vec F S4096x32 .f32) (v8 v10 : FVec F S4096x512 .f32) (v3 : FVec F S40x4096 .f32) (n : ℕ)
    (c : FVec F S32x512 .f32) (x : FVec F S4096x1 .f32) (k : FVec F S1x512 .f32) (s : BitVec 1) (K : Carried F → sProp 𝕄) :
    spec v0 v8 v10 v3 n c x k s K = K (go v0 v8 v10 v3 n c x k s) := rfl

/-- The label's body meets the specification at every number of trips up to 1000. -/
theorem spec_le (d : Dev nD) (E : Set ℕ) (v0 : Vec F S4096x32 .f32) (v8 v10 : FVec F S4096x512 .f32)
    (v3 : FVec F S40x4096 .f32) :
    ∀ n, n ≤ 1000 → ∀ c x k s K, spec v0 v8 v10 v3 n c x k s K
      ⊢ wp frame (wpE (defs₀ (F := F)) 𝒱₀ (d : Thread nD τ) (some n)) E
          (defs₀ (F := F) .tc 1 ⟨v0, v8, v10, v3, ctr n, c, x, k, s⟩) K := by
  intro n
  induction n with
  | zero =>
    intro hn c x k s K
    rw [spec_apply]
    show _ ⊢ wp frame (wpE (defs₀ (F := F)) 𝒱₀ (d : Thread nD τ) (some 0)) E
      (cc0_while1 v0 v8 v10 v3 (ctr 0) c x k s) K
    simp only [cc0_while1_eq_skeleton]; unfold cc0_while1_skel
    rw [if_neg (fun h => absurd ((goes_on 0 hn s).mp h).1 (Nat.lt_irrefl 0))]
    simp only [Prog.pure_eq_ret]
    iintro Hk
    rw [wp_ret]; imodintro
    simp only [go]
    iexact Hk
  | succ n ih =>
    intro hn c x k s K
    rw [spec_apply]
    show _ ⊢ wp frame (wpE (defs₀ (F := F)) 𝒱₀ (d : Thread nD τ) (some (n + 1))) E
      (cc0_while1 v0 v8 v10 v3 (ctr (n + 1)) c x k s) K
    simp only [cc0_while1_eq_skeleton]; unfold cc0_while1_skel
    by_cases hs : s = 0#1
    · rw [if_pos ((goes_on (n + 1) hn s).mpr ⟨Nat.succ_pos n, hs⟩)]
      simp only [Prog.lift, Prog.bind_op, Prog.bind_ret, Prog.pure_eq_ret]
      iintro Hk
      rw [ctr_step n hn]
      iapply (wp_call_spec 𝒱₀ (d : Thread nD τ) (some (n + 1)) E
        (spec v0 v8 v10 v3 n (k0_pay13 v0 v8 v10 v3 c) (k0_pay10 v0 v8 v10 c) (k0_pay12 v0 v8 v10 v3 c) (same v0 v8 v10 v3 c)) n
        (fun u hu => by cases hu; exact Nat.lt_succ_self n) (ih (Nat.le_of_succ_le hn) _ _ _ _))
      rw [spec_apply]
      rw [wp_ret]; imodintro
      simp only [go, hs, ↓reduceIte]
      iexact Hk
    · rw [if_neg (fun h => hs ((goes_on (n + 1) hn s).mp h).2)]
      simp only [Prog.pure_eq_ret]
      iintro Hk
      rw [wp_ret]; imodintro
      simp only [go, hs, ↓reduceIte]
      iexact Hk

end Cert.Proof.PI

end
-- ==== Proof.PI.Run.lean ====
/-
  The run of the kernel's program, for every `FloatOps F`: the body's obligation at the one grid point (the three loads
  and stores around the loop's label), the launch with the reshape after the region, and what every result holds at
  the end as a pure function of the two arguments.
-/
module

public import proofs.«01_k».proof.Proof.PI.Loop

@[expose] public section

set_option maxRecDepth 16384

noncomputable section

namespace Cert.Proof.PI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-! ## What the kernel returns -/

/-- The loop's result from the points `e` and the first centroids `c`. -/
def fin (e : FVec F S4096x32 .f32) (c : FVec F S512x32 .f32) : Carried F :=
  go e (k0_pay2 e) k0_pay3 (k0_pay1 e) 1000 (k0_pay4 c) k0_pay5 k0_pay6 0#1

/-- The first result: the centroids, one a row. -/
def outC (e : FVec F S4096x32 .f32) (c : FVec F S512x32 .f32) : FVec F S512x32 .f32 := k0_pay7 (fin e c).2.1
/-- The second, before its reshape: the indices, as a column. -/
def outI (e : FVec F S4096x32 .f32) (c : FVec F S512x32 .f32) : IVec S4096x1 32 := k0_pay8 (fin e c).2.2.1
/-- The third: the counts, as a column. -/
def outN (e : FVec F S4096x32 .f32) (c : FVec F S512x32 .f32) : FVec F S512x1 .f32 := k0_pay9 (fin e c).2.2.2.1

/-! ## The proof data -/

variable (m : (ℓ : Loc nD τ sig) → Buf (Elt F) ℓ) (ρ : Dev nD → PrngReg)

/-- The points and the first centroids as launched. -/
abbrev pts (d : Dev nD) : FVec F S4096x32 .f32 := m ((d : Thread nD τ).loc main_arg0)
abbrev cen (d : Dev nD) : FVec F S512x32 .f32 := m ((d : Thread nD τ).loc main_arg1)

/-- The one pipeline's proof data: the arrays at their launch contents; after the body the operands' staging buffers as
    fetched, the results' at the loop's result. -/
def dats (_ : Fin 1) (d : Dev nD) : Dat τ (Elt F) Unit ℕ (UR sig nD τ) ℕ (cfg0 (F := F)) d where
  A w := m (((cfg0 (F := F)).win w).arr.view.loc (d : Thread nD τ))
  after w _ := match w with
    | ⟨0, _⟩ => pts m d
    | ⟨1, _⟩ => cen m d
    | ⟨2, _⟩ => outC (pts m d) (cen m d)
    | ⟨3, _⟩ => outI (pts m d) (cen m d)
    | ⟨4, _⟩ => outN (pts m d) (cen m d)
  Φ _ := Pipeline.ΦA spec0 d
  q _ := fullShare
  owed _ := 0

omit [FloatOps F] in
/-- Owning a whole buffer at contents `X` is its points-to at some contents equal to `X`. -/
theorem owns_whole_eq (d : Dev nD) (b : Ref sig .tc) (X : b.ty.Contents (Elt F)) :
    (owns (Ix := Unit) (Name := ℕ) (U := UR sig nD τ) (Lvl := ℕ) (d : Thread nD τ) (Memref.whole b) fullShare X : sProp 𝕄)
      = iprop(∃ f : Buf (Elt F) (((d : Dev nD) : Thread nD τ).loc b), ⌜f = X⌝ ∗ (((d : Thread nD τ).loc b) ↦{fullShare} f)) := by
  unfold owns; simp only [Memref.view_whole, View.read_whole, View.set_whole]

/-- A staging buffer at contents equal to `X`. -/
abbrev stg (d : Dev nD) (b : Ref sig .tc) (X : b.ty.Contents (Elt F)) : sProp 𝕄 :=
  iprop(∃ f : Buf (Elt F) (((d : Dev nD) : Thread nD τ).loc b), ⌜f = X⌝ ∗ (((d : Thread nD τ).loc b) ↦{fullShare} f))

omit [FloatOps F] in
/-- The zero offsets of a rank-two access. -/
theorem off0 : (![0, 0] : Fin 2 → ℕ) = fun _ => 0 := by
  funext a; fin_cases a <;> rfl

/-- The points' window fetches the whole array. -/
theorem before0 (d : Dev nD) (t : Fin (cfg0 (F := F)).N) (x) : (dats m 0 d).before (0 : Fin 5) t x = pts m d :=
  ((dats m 0 d).before_fetched (0 : Fin 5) t (fetch0_0 t) x).trans
    (show (win0_0.blk t).view.read (Elt F) (pts m d) = pts m d from
      Memref.read_access_unit_zero (Elt F) main_arg0 (off := fun a => 0 * S4096x32.size a) (funext fun a => Nat.zero_mul _)
        (fun a => Nat.le_of_eq (by rw [Nat.zero_mul, Nat.zero_add])) (pts m d))

/-- The centroids' window fetches the whole array. -/
theorem before1 (d : Dev nD) (t : Fin (cfg0 (F := F)).N) (x) : (dats m 0 d).before (1 : Fin 5) t x = cen m d :=
  ((dats m 0 d).before_fetched (1 : Fin 5) t (fetch0_1 t) x).trans
    (show (win0_1.blk t).view.read (Elt F) (cen m d) = cen m d from
      Memref.read_access_unit_zero (Elt F) main_arg1 (off := fun a => 0 * S512x32.size a) (funext fun a => Nat.zero_mul _)
        (fun a => Nat.le_of_eq (by rw [Nat.zero_mul, Nat.zero_add])) (cen m d))

/-! ## The body -/

/-- What the body is called with at the one point. -/
def bodyPre (d : Dev nD) (t : Fin (cfg0 (F := F)).N) : sProp 𝕄 :=
  iprop(Pipeline.ΦA spec0 d ∗ (dats m 0 d).owesAt () t.castSucc
    ∗ (∃ x, stg d cc0_stg0_0 ((dats m 0 d).before (0 : Fin 5) t x))
    ∗ (∃ x, stg d cc0_stg1_0 ((dats m 0 d).before (1 : Fin 5) t x))
    ∗ (∃ x, stg d cc0_stg2_0 ((dats m 0 d).before (2 : Fin 5) t x))
    ∗ (∃ x, stg d cc0_stg3_0 ((dats m 0 d).before (3 : Fin 5) t x))
    ∗ (∃ x, stg d cc0_stg4_0 ((dats m 0 d).before (4 : Fin 5) t x)))

/-- And what it returns. -/
def bodyPost (d : Dev nD) (t : Fin (cfg0 (F := F)).N) : sProp 𝕄 :=
  iprop(Pipeline.ΦA spec0 d ∗ (dats m 0 d).owesAt () t.succ
    ∗ stg d cc0_stg0_0 (pts m d) ∗ stg d cc0_stg1_0 (cen m d) ∗ stg d cc0_stg2_0 (outC (pts m d) (cen m d))
    ∗ stg d cc0_stg3_0 (outI (pts m d) (cen m d)) ∗ stg d cc0_stg4_0 (outN (pts m d) (cen m d)))

/-- The body from its precondition to its postcondition: it loads both operands, runs the loop, and stores the three
    results over what the staging buffers held. -/
theorem sound_body (d : Dev nD) (t : Fin (cfg0 (F := F)).N) (K : PUnit → sProp 𝕄) :
    iprop(bodyPre m d t ∗ (bodyPost m d t -∗ K ⟨⟩))
      ⊢ wp frame (wpE (defs₀ (F := F)) 𝒱₀ d none) Set.univ
          (cc0__kmeans_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _)) K := by
  simp only [cc0__kmeans_body_eq_skeleton]; unfold cc0__kmeans_body_skel
  simp only [Prog.lift, Prog.bind_op, Prog.bind_ret, Prog.pure_eq_ret]
  unfold bodyPre
  iintro ⟨⟨HA, Ho, ⟨%x0, %f0, %h0, H0⟩, ⟨%x1, %f1, %h1, H1⟩, ⟨%x2, %f2, %h2, H2⟩, ⟨%x3, %f3, %h3, H3⟩, ⟨%x4, %f4, %h4, H4⟩⟩, Hk⟩
  have e0 : f0 = pts m d := h0.trans (before0 m d t x0)
  have e1 : f1 = cen m d := h1.trans (before1 m d t x1)
  subst e0 e1
  iapply (wp_load 𝒱₀ (d : Thread nD τ) none Set.univ (m := Memref.whole cc0_stg0_0) (Finset.subset_univ _)) $$ H0; iintro H0
  erw [Memref.readAt_unit_zero (Elt F) cc0_stg0_0 off0 _ (pts m d)]
  iapply (wp_load 𝒱₀ (d : Thread nD τ) none Set.univ (m := Memref.whole cc0_stg1_0) (Finset.subset_univ _)) $$ H1; iintro H1
  erw [Memref.readAt_unit_zero (Elt F) cc0_stg1_0 off0 _ (cen m d)]
  have hl := spec_le (F := F) d Set.univ (pts m d) (k0_pay2 (pts m d)) k0_pay3 (k0_pay1 (pts m d)) 1000 le_rfl
    (k0_pay4 (cen m d)) k0_pay5 k0_pay6 0#1
  rw [show ctr 1000 = 0#32 from by decide] at hl
  iapply (wp_call_spec 𝒱₀ (d : Thread nD τ) none Set.univ
    (spec (pts m d) (k0_pay2 (pts m d)) k0_pay3 (k0_pay1 (pts m d)) 1000 (k0_pay4 (cen m d)) k0_pay5 k0_pay6 0#1) 1000
    (fun u hu => nomatch hu) hl)
  rw [spec_apply]
  iapply (wp_load 𝒱₀ (d : Thread nD τ) none Set.univ (m := Memref.whole cc0_stg2_0) (Finset.subset_univ _)) $$ H2; iintro H2
  iapply (wp_store 𝒱₀ (d : Thread nD τ) none Set.univ (m := Memref.whole cc0_stg2_0)
    (r := Rect.unit (s := S512x32) ![0, 0] S512x32.size inb_S512x32_S512x32_0_0) (Mk := Finset.univ) (Finset.subset_univ _)) $$ H2; iintro H2
  iapply (wp_load 𝒱₀ (d : Thread nD τ) none Set.univ (m := Memref.whole cc0_stg3_0) (Finset.subset_univ _)) $$ H3; iintro H3
  iapply (wp_store 𝒱₀ (d : Thread nD τ) none Set.univ (m := Memref.whole cc0_stg3_0)
    (r := Rect.unit (s := S4096x1) ![0, 0] S4096x1.size inb_S4096x1_S4096x1_0_0) (Mk := Finset.univ) (Finset.subset_univ _)) $$ H3; iintro H3
  iapply (wp_load 𝒱₀ (d : Thread nD τ) none Set.univ (m := Memref.whole cc0_stg4_0) (Finset.subset_univ _)) $$ H4; iintro H4
  iapply (wp_store 𝒱₀ (d : Thread nD τ) none Set.univ (m := Memref.whole cc0_stg4_0)
    (r := Rect.unit (s := S512x1) ![0, 0] S512x1.size inb_S512x1_S512x1_0_0) (Mk := Finset.univ) (Finset.subset_univ _)) $$ H4; iintro H4
  rw [wp_ret]; imodintro
  iapply Hk
  unfold bodyPost
  rw [show (dats m 0 d).owesAt () t.succ = (dats m 0 d).owesAt () t.castSucc from rfl]
  isplitl [HA]; · iexact HA
  isplitl [Ho]; · iexact Ho
  isplitl [H0]
  · iexists _; isplitr; · (ipureintro; rfl)
    iexact H0
  isplitl [H1]
  · iexists _; isplitr; · (ipureintro; rfl)
    iexact H1
  isplitl [H2]
  · iexists _; isplitr
    swap; · iexact H2
    ipureintro; exact Memref.write_access_unit_zero_univ (Elt F) cc0_stg2_0 off0 _ _ _
  isplitl [H3]
  · iexists _; isplitr
    swap; · iexact H3
    ipureintro; exact Memref.write_access_unit_zero_univ (Elt F) cc0_stg3_0 off0 _ _ _
  iexists _; isplitr
  swap; · iexact H4
  ipureintro; exact Memref.write_access_unit_zero_univ (Elt F) cc0_stg4_0 off0 _ _ _

/-- The pipeline library's obligation on the body. -/
theorem body_obligation (d : Dev nD) :
    BodyObligation (dats (F := F) m 0 d) (defs₀ (F := F)) 𝒱₀ () Set.univ := fun t => by
  rw [show t = t0_0 from fin_N0 t]
  rw [show ∀ Φ : Fin (cfg0 (F := F)).W → sProp 𝕄, bigSep Finset.univ Φ
      = iprop(Φ (0 : Fin 5) ∗ Φ (1 : Fin 5) ∗ Φ (2 : Fin 5) ∗ Φ (3 : Fin 5) ∗ Φ (4 : Fin 5)) from fun Φ => bigSep_W0 Φ]
  rw [show ∀ Φ : Fin (cfg0 (F := F)).W → sProp 𝕄, bigSep Finset.univ Φ
      = iprop(Φ (0 : Fin 5) ∗ Φ (1 : Fin 5) ∗ Φ (2 : Fin 5) ∗ Φ (3 : Fin 5) ∗ Φ (4 : Fin 5)) from fun Φ => bigSep_W0 Φ]
  simp only [owns_whole_eq]
  show bodyPre m d t0_0 ⊢ wp frame (wpE (defs₀ (F := F)) 𝒱₀ d none) Set.univ
    (cc0__kmeans_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _)) (fun _ => bodyPost m d t0_0)
  iintro H
  iapply (sound_body m d t0_0 fun _ => bodyPost m d t0_0)
  isplitl [H]; · iexact H
  iintro H; iexact H

/-! ## The launch -/

theorem share_eq (d : Dev nD) (w : Fin (cfg0 (F := F)).W) : (dats m 0 d).share w = fullShare := by
  unfold Dat.share; split <;> rfl

/-- The buffers at the region's entry: as launched. -/
abbrev V0 (d : Dev nD) : Valuation τ sig (Elt F) := StableHlo.after (List.flatten []) (fun b => m (d, b))

/-- @main is the region continued by the reshape. -/
theorem hmain : Pipeline.HMainK (Ix := Unit) (Name := ℕ) (U := UR sig nD τ) (Lvl := ℕ) cfgs 0 defs₀ 𝒱₀ m (main (F := F))
    (fun d b => V0 m d (Proc.devRef .tc b)) (fun _ => Pipeline.chain (([hostOps1] : List (List (HloOp τ sig (Elt F)))).map StableHlo.seq)) :=
  Pipeline.hmain_around cfgs 0 defs₀ 𝒱₀ m main [] [hostOps1 (F := F)] trivial trivial (main_chain (F := F))

theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 (launch0 (F := F)).win.arr_unscoped]
  intro ops hops op hop
  rw [List.mem_singleton] at hops
  subst hops
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  rw [List.mem_singleton] at hops
  subst hops
  rw [hostOps1, List.mem_singleton] at hop
  subst hop
  rfl

theorem tail_keep : ∀ ops ∈ ([hostOps1] : List (List (HloOp τ sig (Elt F)))), ∀ op ∈ ops,
    ∀ w, Proc.devRef .tc (Pipeline.arrRef spec0 w) ∉ op.writes := by
  intro ops hops op hop
  rw [List.mem_singleton] at hops
  subst hops
  rw [hostOps1, List.mem_singleton] at hop
  subst hop
  intro w
  fin_cases w <;> simp only [StableHlo.reshape_writes, Finset.mem_singleton] <;> exact StableHlo.devRef_ne_of_ne (by decide)

/-- The end of a run: the arguments as launched, the results the loop's. -/
def Post (r : PUnit × MemSt nD τ sig (Elt F)) : Prop := ∀ d : Dev nD,
  r.2.mem ((d : Thread nD τ).loc main_v0_0) = outC (pts m d) (cen m d)
  ∧ r.2.mem ((d : Thread nD τ).loc main_v1) = shapeCast S4096 (outI (pts m d) (cen m d)) shapeCasts_S4096x1_S4096
  ∧ r.2.mem ((d : Thread nD τ).loc main_v0_2) = outN (pts m d) (cen m d)
  ∧ r.2.mem ((d : Thread nD τ).loc main_arg0) = m ((d : Thread nD τ).loc main_arg0)
  ∧ r.2.mem ((d : Thread nD τ).loc main_arg1) = m ((d : Thread nD τ).loc main_arg1)

/-- A result's array at the end is what the body left in its staging buffer. -/
theorem arrAt2 (d : Dev nD) : (dats m 0 d).arrAt (2 : Fin 5) (cfg0 (F := F)).N = outC (pts m d) (cen m d) := by
  rw [show (cfg0 (F := F)).N = (t0_0 : Fin grid0.N).val + 1 from rfl]
  refine ((dats m 0 d).arrAt_succ (2 : Fin 5) t0_0).trans ?_
  refine (if_pos (flush0_2 t0_0)).trans ?_
  exact Memref.write_access_unit_zero_univ (Elt F) main_v0_0 (funext fun a => Nat.zero_mul _) _ _ _
theorem arrAt3 (d : Dev nD) : (dats m 0 d).arrAt (3 : Fin 5) (cfg0 (F := F)).N = outI (pts m d) (cen m d) := by
  rw [show (cfg0 (F := F)).N = (t0_0 : Fin grid0.N).val + 1 from rfl]
  refine ((dats m 0 d).arrAt_succ (3 : Fin 5) t0_0).trans ?_
  refine (if_pos (flush0_3 t0_0)).trans ?_
  exact Memref.write_access_unit_zero_univ (Elt F) main_v0_1 (funext fun a => Nat.zero_mul _) _ _ _
theorem arrAt4 (d : Dev nD) : (dats m 0 d).arrAt (4 : Fin 5) (cfg0 (F := F)).N = outN (pts m d) (cen m d) := by
  rw [show (cfg0 (F := F)).N = (t0_0 : Fin grid0.N).val + 1 from rfl]
  refine ((dats m 0 d).arrAt_succ (4 : Fin 5) t0_0).trans ?_
  refine (if_pos (flush0_4 t0_0)).trans ?_
  exact Memref.write_access_unit_zero_univ (Elt F) main_v0_2 (funext fun a => Nat.zero_mul _) _ _ _

/-- The library's final memory is `Post`. -/
theorem post_of (r : PUnit × MemSt nD τ sig (Elt F))
    (h : Pipeline.FramePost cfgs (dats m) 0 (Pipeline.afterTail₀ cfgs (dats m) 0 (V0 m) [hostOps1 (F := F)]) r) : Post m r := by
  intro d
  obtain ⟨ha, hb⟩ := h d
  refine ⟨(ha (2 : Fin 5)).trans (arrAt2 m d), ?_, (ha (4 : Fin 5)).trans (arrAt4 m d),
    (ha (0 : Fin 5)).trans ((dats m 0 d).arrAt_in (0 : Fin 5) rfl _), (ha (1 : Fin 5)).trans ((dats m 0 d).arrAt_in (1 : Fin 5) rfl _)⟩
  refine (hb main_v1 (show main_v1 ∈ Pipeline.restRefs sig spec0 from by decide)).trans ?_
  unfold Pipeline.afterTail₀
  rw [List.flatten_cons, List.flatten_nil, List.append_nil, hostOps1, StableHlo.after_cons, StableHlo.after_nil,
    StableHlo.reshape_result]
  exact congrArg (fun x : IVec S4096x1 32 => shapeCast S4096 x shapeCasts_S4096x1_S4096)
    ((Pipeline.withArrays_arr spec0 (launch0 (F := F)).win.arr_inj d (V0 m d) (fun w => (dats m 0 d).arrAt w (cfg0 (F := F)).N) (3 : Fin 5)).trans (arrAt3 m d))

/-- From any memory with zero counters every weakly fair execution of @main terminates with the results the loop's, the
    arguments unchanged and every semaphore counter at zero. -/
theorem run_main : θ_run defs (onTc (τ := τ) (main (F := F))) ⟨m, fun _ => 0, ρ⟩ (fun r => Post m r ∧ r.2.sem = fun _ => 0) :=
  Pipeline.θ_run_frame_around cfgs (dats m) (0 : Fin 1) launch0 defs₀ 𝒱₀ m ρ main
    (hbody := fun d => (body_obligation m d).loose) (hshare := share_eq m) (howed := fun _ _ => rfl)
    (V₀ := V0 m) (opss := [hostOps1]) (hsub := tail_sub) (hfresh := tail_fresh) (hkeep := tail_keep)
    (hmain := hmain m) (hA := fun _ _ => rfl) (hΦ := fun _ _ => rfl)
    (Q' := fun r => Post m r ∧ r.2.sem = fun _ => 0) (hQ' := fun r h => ⟨post_of m r h.1, h.2⟩)

end Cert.Proof.PI

end
-- ==== Proof.Ref.Ops.lean ====
/-
  The reference program's operations in stretches: what comes before its loop, the loop's condition, one trip in eight
  stretches (distances, argmin, sums, sizes, means, the two rows written, the hand-over), and what comes after. Of each
  stretch: its buffers are the TensorCore's, it allocates none, which references it writes. Then `main` and the loop's
  body as chains of the stretches.
-/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 16384

noncomputable section

namespace Cert.Proof.Ref

open Idealize.ShloMosaic Idealize.ShloMosaic.TcCoe
open Idealize.SL Idealize.SL.RA Idealize.SL.BI
open scoped Idealize.SL.BI
open Idealize.SL.BI.BIBase Idealize.SL.Sem
open Cert.ReferenceIdeal Cert.ReferenceIdeal.Gen

variable {F : FTy → Type} [FloatOps F]

/-- The operations of @main before its loop, in order. -/
abbrev setupOps : List (HloOp τ sig (Elt F)) :=
  [ StableHlo.nullary main_cst (constant S_ .f32 0x3F800000#32),
    StableHlo.unary main_cst main_v0 (broadcastInDim S4096x1 ![] bcast_S_S4096x1 : (⟨S_, .f32⟩ : BufTy).Contents (Elt F) → (⟨S4096x1, .f32⟩ : BufTy).Contents (Elt F)),
    StableHlo.binary main_arg0 main_arg0 main_v1 (mulf : (⟨S4096x32, .f32⟩ : BufTy).Contents (Elt F) → (⟨S4096x32, .f32⟩ : BufTy).Contents (Elt F) → (⟨S4096x32, .f32⟩ : BufTy).Contents (Elt F)),
    StableHlo.nullary main_cst_0 (constant S_ .f32 0x00000000#32),
    StableHlo.binary main_v1 main_cst_0 main_v2 ((fun x v => Host.reduceAdd x v reducesTo_S4096x32_S4096_d1 h_S_) : (⟨S4096x32, .f32⟩ : BufTy).Contents (Elt F) → (⟨S_, .f32⟩ : BufTy).Contents (Elt F) → (⟨S4096, .f32⟩ : BufTy).Contents (Elt F)),
    StableHlo.unary main_v2 main_v3 (broadcastInDim S4096x1 ![0] bcast_S4096_S4096x1_0 : (⟨S4096, .f32⟩ : BufTy).Contents (Elt F) → (⟨S4096x1, .f32⟩ : BufTy).Contents (Elt F)),
    StableHlo.nullary main_c (constantI S_ 32 0#32),
    StableHlo.unary main_c main_v4 (broadcastInDim S1000x4096 ![] bcast_S_S1000x4096 : (⟨S_, .i32⟩ : BufTy).Contents (Elt F) → (⟨S1000x4096, .i32⟩ : BufTy).Contents (Elt F)),
    StableHlo.nullary main_cst_1 (constant S_ .f32 0x00000000#32),
    StableHlo.unary main_cst_1 main_v5 (broadcastInDim S1000x512x1 ![] bcast_S_S1000x512x1 : (⟨S_, .f32⟩ : BufTy).Contents (Elt F) → (⟨S1000x512x1, .f32⟩ : BufTy).Contents (Elt F)),
    StableHlo.nullary main_c_2 (constantI S_ 32 0#32),
    StableHlo.unary main_arg0 main_v6_0 id,
    StableHlo.unary main_v3 main_v6_1 id,
    StableHlo.unary main_v0 main_v6_2 id,
    StableHlo.unary main_c_2 main_v6_3 id,
    StableHlo.unary main_arg1 main_v6_4 id,
    StableHlo.unary main_v4 main_v6_5 id,
    StableHlo.unary main_v5 main_v6_6 id ]

theorem setup_sub : (setupOps : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

theorem setup_fresh : (setupOps : List (HloOp τ sig (Elt F))).Forall fun op => op.fresh = ∅ :=
  StableHlo.forall_fresh_of_map rfl

/-- The references that `setupOps` writes. -/
abbrev setupW : List (Ref sig .tc) :=
  [main_cst, main_v0, main_v1, main_cst_0, main_v2, main_v3, main_c, main_v4, main_cst_1, main_v5, main_c_2, main_v6_0, main_v6_1, main_v6_2, main_v6_3, main_v6_4, main_v6_5, main_v6_6]

theorem setup_writes : (setupOps : List (HloOp τ sig (Elt F))).Forall fun op =>
    op.writes ⊆ (setupW.map (Proc.devRef (τ := τ) .tc)).toFinset :=
  StableHlo.forall_writes_sub_of_map rfl

/-- `setupOps` leaves every other reference as it was. -/
theorem setup_keep (V : Valuation τ sig (Elt F)) {r : Ref sig .tc} (h : r ∉ setupW) :
    StableHlo.after setupOps V (Proc.devRef .tc r) = V (Proc.devRef .tc r) :=
  StableHlo.after_of_writes_sub setupOps V setup_writes h

/-- The operations of the condition region, in order. -/
abbrev condOps : List (HloOp τ sig (Elt F)) :=
  [ StableHlo.nullary main_while0c_c_9 (constantI S_ 32 1000#32),
    StableHlo.binary main_v6_3 main_while0c_c_9 main_while0c_v11 (cmpi .slt) ]

theorem cond_sub : (condOps : List (HloOp τ sig (Elt F))).Forall fun op => op.bufs ⊆ StableHlo.tcRefs τ sig :=
  ⟨StableHlo.nullary_bufs_sub .., StableHlo.binary_bufs_sub ..⟩

theorem cond_fresh : (condOps : List (HloOp τ sig (Elt F))).Forall fun op => op.fresh = ∅ :=
  StableHlo.forall_fresh_of_map rfl

/-- The references that `condOps` writes. -/
abbrev condW : List (Ref sig .tc) :=
  [main_while0c_c_9, main_while0c_v11]

theorem cond_writes : (condOps : List (HloOp τ sig (Elt F))).Forall fun op =>
    op.writes ⊆ (condW.map (Proc.devRef (τ := τ) .tc)).toFinset :=
  StableHlo.forall_writes_sub_of_map rfl

/-- `condOps` leaves every other reference as it was. -/
theorem cond_keep (V : Valuation τ sig (Elt F)) {r : Ref sig .tc} (h : r ∉ condW) :
    StableHlo.after condOps V (Proc.devRef .tc r) = V (Proc.devRef .tc r) :=
  StableHlo.after_of_writes_sub condOps V cond_writes h

/-- The operations of a trip: the squared distances, in order. -/
abbrev distOps : List (HloOp τ sig (Elt F)) :=
  [ StableHlo.binary main_v6_4 main_v6_4 main_while0b_v11 (mulf : (⟨S512x32, .f32⟩ : BufTy).Contents (Elt F) → (⟨S512x32, .f32⟩ : BufTy).Contents (Elt F) → (⟨S512x32, .f32⟩ : BufTy).Contents (Elt F)),
    StableHlo.nullary main_while0b_cst_9 (constant S_ .f32 0x00000000#32),
    StableHlo.binary main_while0b_v11 main_while0b_cst_9 main_while0b_v12 ((fun x v => Host.reduceAdd x v reducesTo_S512x32_S512_d1 h_S_) : (⟨S512x32, .f32⟩ : BufTy).Contents (Elt F) → (⟨S_, .f32⟩ : BufTy).Contents (Elt F) → (⟨S512, .f32⟩ : BufTy).Contents (Elt F)),
    StableHlo.unary main_while0b_v12 main_while0b_v13 (broadcastInDim S1x512 ![1] bcast_S512_S1x512_1 : (⟨S512, .f32⟩ : BufTy).Contents (Elt F) → (⟨S1x512, .f32⟩ : BufTy).Contents (Elt F)),
    StableHlo.unary main_v6_4 main_while0b_v14 ((transpose S32x512 [1, 0] · transposes_S512x32_S32x512_1_0) : (⟨S512x32, .f32⟩ : BufTy).Contents (Elt F) → (⟨S32x512, .f32⟩ : BufTy).Contents (Elt F)),
    StableHlo.binary main_v6_0 main_while0b_v14 main_while0b_v15 ((fun l r => Host.dotGeneral dot_S4096x32_S32x512_S4096x512_1_0_0_1_n_n none l r) : (⟨S4096x32, .f32⟩ : BufTy).Contents (Elt F) → (⟨S32x512, .f32⟩ : BufTy).Contents (Elt F) → (⟨S4096x512, .f32⟩ : BufTy).Contents (Elt F)),
    StableHlo.nullary main_while0b_cst_10 (constant S_ .f32 0x40000000#32),
    StableHlo.unary main_while0b_cst_10 main_while0b_v16 (broadcastInDim S4096x512 ![] bcast_S_S4096x512 : (⟨S_, .f32⟩ : BufTy).Contents (Elt F) → (⟨S4096x512, .f32⟩ : BufTy).Contents (Elt F)),
    StableHlo.binary main_while0b_v16 main_while0b_v15 main_while0b_v17 (mulf : (⟨S4096x512, .f32⟩ : BufTy).Contents (Elt F) → (⟨S4096x512, .f32⟩ : BufTy).Contents (Elt F) → (⟨S4096x512, .f32⟩ : BufTy).Contents (Elt F)),
    StableHlo.unary main_v6_1 main_while0b_v18 (broadcastInDim S4096x512 ![0, 1] bcast_S4096x1_S4096x512_0_1 : (⟨S4096x1, .f32⟩ : BufTy).Contents (Elt F) → (⟨S4096x512, .f32⟩ : BufTy).Contents (Elt F)),
    StableHlo.binary main_while0b_v18 main_while0b_v17 main_while0b_v19 (subf : (⟨S4096x512, .f32⟩ : BufTy).Contents (Elt F) → (⟨S4096x512, .f32⟩ : BufTy).Contents (Elt F) → (⟨S4096x512, .f32⟩ : BufTy).Contents (Elt F)),
    StableHlo.unary main_while0b_v13 main_while0b_v20 (broadcastInDim S4096x512 ![0, 1] bcast_S1x512_S4096x512_0_1 : (⟨S1x512, .f32⟩ : BufTy).Contents (Elt F) → (⟨S4096x512, .f32⟩ : BufTy).Contents (Elt F)),
    StableHlo.binary main_while0b_v19 main_while0b_v20 main_while0b_v21 (addf : (⟨S4096x512, .f32⟩ : BufTy).Contents (Elt F) → (⟨S4096x512, .f32⟩ : BufTy).Contents (Elt F) → (⟨S4096x512, .f32⟩ : BufTy).Contents (Elt F)) ]

theorem dist_sub : (distOps : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.binary_bufs_sub ..⟩

theorem dist_fresh : (distOps : List (HloOp τ sig (Elt F))).Forall fun op => op.fresh = ∅ :=
  StableHlo.forall_fresh_of_map rfl

/-- The references that `distOps` writes. -/
abbrev distW : List (Ref sig .tc) :=
  [main_while0b_v11, main_while0b_cst_9, main_while0b_v12, main_while0b_v13, main_while0b_v14, main_while0b_v15, main_while0b_cst_10, main_while0b_v16, main_while0b_v17, main_while0b_v18, main_while0b_v19, main_while0b_v20, main_while0b_v21]

theorem dist_writes : (distOps : List (HloOp τ sig (Elt F))).Forall fun op =>
    op.writes ⊆ (distW.map (Proc.devRef (τ := τ) .tc)).toFinset :=
  StableHlo.forall_writes_sub_of_map rfl

/-- `distOps` leaves every other reference as it was. -/
theorem dist_keep (V : Valuation τ sig (Elt F)) {r : Ref sig .tc} (h : r ∉ distW) :
    StableHlo.after distOps V (Proc.devRef .tc r) = V (Proc.devRef .tc r) :=
  StableHlo.after_of_writes_sub distOps V dist_writes h

/-- The operations of a trip: the nearest centroids (the called argmin), in order. -/
abbrev nearOps : List (HloOp τ sig (Elt F)) :=
  [ StableHlo.TRef.nullary (.of main_while0b_call0_v0 : StableHlo.TRef sig ⟨S4096x512, .i32⟩) (iotaInDim S4096x512 32 1),
    StableHlo.TRef.nullary (.of main_while0b_call0_cst : StableHlo.TRef sig ⟨S_, .f32⟩) (constant S_ .f32 0x7F800000#32),
    StableHlo.TRef.nullary (.of main_while0b_call0_c : StableHlo.TRef sig ⟨S_, .i32⟩) (constantI S_ 32 0#32),
    StableHlo.TRef.quaternary (.of main_while0b_v21 : StableHlo.TRef sig ⟨S4096x512, .f32⟩) (.of main_while0b_call0_v0 : StableHlo.TRef sig ⟨S4096x512, .i32⟩) (.of main_while0b_call0_cst : StableHlo.TRef sig ⟨S_, .f32⟩) (.of main_while0b_call0_c : StableHlo.TRef sig ⟨S_, .i32⟩) (.of main_while0b_call0_v1_0 : StableHlo.TRef sig ⟨S4096, .f32⟩) (fun x y u v j => (Host.argReduce reducer_argmin_f32_i32 x y u v reducesTo_S4096x512_S4096_d1 h_S_ j).1),
    StableHlo.TRef.quaternary (.of main_while0b_v21 : StableHlo.TRef sig ⟨S4096x512, .f32⟩) (.of main_while0b_call0_v0 : StableHlo.TRef sig ⟨S4096x512, .i32⟩) (.of main_while0b_call0_cst : StableHlo.TRef sig ⟨S_, .f32⟩) (.of main_while0b_call0_c : StableHlo.TRef sig ⟨S_, .i32⟩) (.of main_while0b_v22 : StableHlo.TRef sig ⟨S4096, .i32⟩) (fun x y u v j => (Host.argReduce reducer_argmin_f32_i32 x y u v reducesTo_S4096x512_S4096_d1 h_S_ j).2) ]

theorem near_sub : (nearOps : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

theorem near_fresh : (nearOps : List (HloOp τ sig (Elt F))).Forall fun op => op.fresh = ∅ :=
  StableHlo.forall_fresh_of_map rfl

/-- The references that `nearOps` writes. -/
abbrev nearW : List (Ref sig .tc) :=
  [main_while0b_call0_v0, main_while0b_call0_cst, main_while0b_call0_c, main_while0b_call0_v1_0, main_while0b_v22]

theorem near_writes : (nearOps : List (HloOp τ sig (Elt F))).Forall fun op =>
    op.writes ⊆ (nearW.map (Proc.devRef (τ := τ) .tc)).toFinset :=
  StableHlo.forall_writes_sub_of_map rfl

/-- `nearOps` leaves every other reference as it was. -/
theorem near_keep (V : Valuation τ sig (Elt F)) {r : Ref sig .tc} (h : r ∉ nearW) :
    StableHlo.after nearOps V (Proc.devRef .tc r) = V (Proc.devRef .tc r) :=
  StableHlo.after_of_writes_sub nearOps V near_writes h

/-- The operations of a trip: the sums over the clusters, in order. -/
abbrev sumOps : List (HloOp τ sig (Elt F)) :=
  [ StableHlo.nullary main_while0b_cst_11 (constant S_ .f32 0x00000000#32),
    StableHlo.unary main_while0b_cst_11 main_while0b_v23 (broadcastInDim S512x32 ![] bcast_S_S512x32 : (⟨S_, .f32⟩ : BufTy).Contents (Elt F) → (⟨S512x32, .f32⟩ : BufTy).Contents (Elt F)),
    StableHlo.nullary main_while0b_c_12 (constantI S_ 32 0#32),
    StableHlo.unary main_while0b_c_12 main_while0b_v24 (broadcastInDim S4096 ![] bcast_S_S4096 : (⟨S_, .i32⟩ : BufTy).Contents (Elt F) → (⟨S4096, .i32⟩ : BufTy).Contents (Elt F)),
    StableHlo.binary main_while0b_v22 main_while0b_v24 main_while0b_v25 (cmpi .slt : (⟨S4096, .i32⟩ : BufTy).Contents (Elt F) → (⟨S4096, .i32⟩ : BufTy).Contents (Elt F) → (⟨S4096, .i1⟩ : BufTy).Contents (Elt F)),
    StableHlo.nullary main_while0b_c_13 (constantI S_ 32 512#32),
    StableHlo.unary main_while0b_c_13 main_while0b_v26 (broadcastInDim S4096 ![] bcast_S_S4096 : (⟨S_, .i32⟩ : BufTy).Contents (Elt F) → (⟨S4096, .i32⟩ : BufTy).Contents (Elt F)),
    StableHlo.binary main_while0b_v22 main_while0b_v26 main_while0b_v27 (addi : (⟨S4096, .i32⟩ : BufTy).Contents (Elt F) → (⟨S4096, .i32⟩ : BufTy).Contents (Elt F) → (⟨S4096, .i32⟩ : BufTy).Contents (Elt F)),
    StableHlo.ternary main_while0b_v25 main_while0b_v27 main_while0b_v22 main_while0b_v28 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_while0b_v28 main_while0b_v29 (broadcastInDim S4096x1 ![0] bcast_S4096_S4096x1_0 : (⟨S4096, .i32⟩ : BufTy).Contents (Elt F) → (⟨S4096x1, .i32⟩ : BufTy).Contents (Elt F)),
    StableHlo.ternary main_while0b_v23 main_while0b_v29 main_v6_0 main_while0b_v30 ((fun x i u => Host.scatterAdd scatter_S512x32_S4096x1_S4096x32_1_0_0_1 x i u) : (⟨S512x32, .f32⟩ : BufTy).Contents (Elt F) → (⟨S4096x1, .i32⟩ : BufTy).Contents (Elt F) → (⟨S4096x32, .f32⟩ : BufTy).Contents (Elt F) → (⟨S512x32, .f32⟩ : BufTy).Contents (Elt F)) ]

theorem sum_sub : (sumOps : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub ..⟩

theorem sum_fresh : (sumOps : List (HloOp τ sig (Elt F))).Forall fun op => op.fresh = ∅ :=
  StableHlo.forall_fresh_of_map rfl

/-- The references that `sumOps` writes. -/
abbrev sumW : List (Ref sig .tc) :=
  [main_while0b_cst_11, main_while0b_v23, main_while0b_c_12, main_while0b_v24, main_while0b_v25, main_while0b_c_13, main_while0b_v26, main_while0b_v27, main_while0b_v28, main_while0b_v29, main_while0b_v30]

theorem sum_writes : (sumOps : List (HloOp τ sig (Elt F))).Forall fun op =>
    op.writes ⊆ (sumW.map (Proc.devRef (τ := τ) .tc)).toFinset :=
  StableHlo.forall_writes_sub_of_map rfl

/-- `sumOps` leaves every other reference as it was. -/
theorem sum_keep (V : Valuation τ sig (Elt F)) {r : Ref sig .tc} (h : r ∉ sumW) :
    StableHlo.after sumOps V (Proc.devRef .tc r) = V (Proc.devRef .tc r) :=
  StableHlo.after_of_writes_sub sumOps V sum_writes h

/-- The operations of a trip: the sizes of the clusters, in order. -/
abbrev countOps : List (HloOp τ sig (Elt F)) :=
  [ StableHlo.nullary main_while0b_cst_14 (constant S_ .f32 0x00000000#32),
    StableHlo.unary main_while0b_cst_14 main_while0b_v31 (broadcastInDim S512x1 ![] bcast_S_S512x1 : (⟨S_, .f32⟩ : BufTy).Contents (Elt F) → (⟨S512x1, .f32⟩ : BufTy).Contents (Elt F)),
    StableHlo.nullary main_while0b_c_15 (constantI S_ 32 0#32),
    StableHlo.unary main_while0b_c_15 main_while0b_v32 (broadcastInDim S4096 ![] bcast_S_S4096 : (⟨S_, .i32⟩ : BufTy).Contents (Elt F) → (⟨S4096, .i32⟩ : BufTy).Contents (Elt F)),
    StableHlo.binary main_while0b_v22 main_while0b_v32 main_while0b_v33 (cmpi .slt : (⟨S4096, .i32⟩ : BufTy).Contents (Elt F) → (⟨S4096, .i32⟩ : BufTy).Contents (Elt F) → (⟨S4096, .i1⟩ : BufTy).Contents (Elt F)),
    StableHlo.nullary main_while0b_c_16 (constantI S_ 32 512#32),
    StableHlo.unary main_while0b_c_16 main_while0b_v34 (broadcastInDim S4096 ![] bcast_S_S4096 : (⟨S_, .i32⟩ : BufTy).Contents (Elt F) → (⟨S4096, .i32⟩ : BufTy).Contents (Elt F)),
    StableHlo.binary main_while0b_v22 main_while0b_v34 main_while0b_v35 (addi : (⟨S4096, .i32⟩ : BufTy).Contents (Elt F) → (⟨S4096, .i32⟩ : BufTy).Contents (Elt F) → (⟨S4096, .i32⟩ : BufTy).Contents (Elt F)),
    StableHlo.ternary main_while0b_v33 main_while0b_v35 main_while0b_v22 main_while0b_v36 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_while0b_v36 main_while0b_v37 (broadcastInDim S4096x1 ![0] bcast_S4096_S4096x1_0 : (⟨S4096, .i32⟩ : BufTy).Contents (Elt F) → (⟨S4096x1, .i32⟩ : BufTy).Contents (Elt F)),
    StableHlo.ternary main_while0b_v31 main_while0b_v37 main_v6_2 main_while0b_v38 ((fun x i u => Host.scatterAdd scatter_S512x1_S4096x1_S4096x1_1_0_0_1 x i u) : (⟨S512x1, .f32⟩ : BufTy).Contents (Elt F) → (⟨S4096x1, .i32⟩ : BufTy).Contents (Elt F) → (⟨S4096x1, .f32⟩ : BufTy).Contents (Elt F) → (⟨S512x1, .f32⟩ : BufTy).Contents (Elt F)) ]

theorem count_sub : (countOps : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub ..⟩

theorem count_fresh : (countOps : List (HloOp τ sig (Elt F))).Forall fun op => op.fresh = ∅ :=
  StableHlo.forall_fresh_of_map rfl

/-- The references that `countOps` writes. -/
abbrev countW : List (Ref sig .tc) :=
  [main_while0b_cst_14, main_while0b_v31, main_while0b_c_15, main_while0b_v32, main_while0b_v33, main_while0b_c_16, main_while0b_v34, main_while0b_v35, main_while0b_v36, main_while0b_v37, main_while0b_v38]

theorem count_writes : (countOps : List (HloOp τ sig (Elt F))).Forall fun op =>
    op.writes ⊆ (countW.map (Proc.devRef (τ := τ) .tc)).toFinset :=
  StableHlo.forall_writes_sub_of_map rfl

/-- `countOps` leaves every other reference as it was. -/
theorem count_keep (V : Valuation τ sig (Elt F)) {r : Ref sig .tc} (h : r ∉ countW) :
    StableHlo.after countOps V (Proc.devRef .tc r) = V (Proc.devRef .tc r) :=
  StableHlo.after_of_writes_sub countOps V count_writes h

/-- The operations of a trip: the next centroids, in order. -/
abbrev meanOps : List (HloOp τ sig (Elt F)) :=
  [ StableHlo.nullary main_while0b_cst_17 (constant S_ .f32 0x358637BD#32),
    StableHlo.unary main_while0b_cst_17 main_while0b_v39 (broadcastInDim S512x1 ![] bcast_S_S512x1 : (⟨S_, .f32⟩ : BufTy).Contents (Elt F) → (⟨S512x1, .f32⟩ : BufTy).Contents (Elt F)),
    StableHlo.binary main_while0b_v38 main_while0b_v39 main_while0b_v40 (addf : (⟨S512x1, .f32⟩ : BufTy).Contents (Elt F) → (⟨S512x1, .f32⟩ : BufTy).Contents (Elt F) → (⟨S512x1, .f32⟩ : BufTy).Contents (Elt F)),
    StableHlo.unary main_while0b_v40 main_while0b_v41 (broadcastInDim S512x32 ![0, 1] bcast_S512x1_S512x32_0_1 : (⟨S512x1, .f32⟩ : BufTy).Contents (Elt F) → (⟨S512x32, .f32⟩ : BufTy).Contents (Elt F)),
    StableHlo.binary main_while0b_v30 main_while0b_v41 main_while0b_v42 (Host.divf : (⟨S512x32, .f32⟩ : BufTy).Contents (Elt F) → (⟨S512x32, .f32⟩ : BufTy).Contents (Elt F) → (⟨S512x32, .f32⟩ : BufTy).Contents (Elt F)) ]

theorem mean_sub : (meanOps : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.binary_bufs_sub ..⟩

theorem mean_fresh : (meanOps : List (HloOp τ sig (Elt F))).Forall fun op => op.fresh = ∅ :=
  StableHlo.forall_fresh_of_map rfl

/-- The references that `meanOps` writes. -/
abbrev meanW : List (Ref sig .tc) :=
  [main_while0b_cst_17, main_while0b_v39, main_while0b_v40, main_while0b_v41, main_while0b_v42]

theorem mean_writes : (meanOps : List (HloOp τ sig (Elt F))).Forall fun op =>
    op.writes ⊆ (meanW.map (Proc.devRef (τ := τ) .tc)).toFinset :=
  StableHlo.forall_writes_sub_of_map rfl

/-- `meanOps` leaves every other reference as it was. -/
theorem mean_keep (V : Valuation τ sig (Elt F)) {r : Ref sig .tc} (h : r ∉ meanW) :
    StableHlo.after meanOps V (Proc.devRef .tc r) = V (Proc.devRef .tc r) :=
  StableHlo.after_of_writes_sub meanOps V mean_writes h

/-- The operations of a trip: the row of assignments written, in order. -/
abbrev putIOps : List (HloOp τ sig (Elt F)) :=
  [ StableHlo.TRef.unary (.of main_while0b_v22 : StableHlo.TRef sig ⟨S4096, .i32⟩) (.of main_while0b_call1_v0 : StableHlo.TRef sig ⟨S1x4096, .i32⟩) (broadcastInDim S1x4096 ![1] bcast_S4096_S1x4096_1),
    StableHlo.TRef.nullary (.of main_while0b_call1_c : StableHlo.TRef sig ⟨S_, .i32⟩) (constantI S_ 32 0#32),
    StableHlo.TRef.binaryIndexed (.of main_v6_5 : StableHlo.TRef sig ⟨S1000x4096, .i32⟩) (.of main_while0b_call1_v0 : StableHlo.TRef sig ⟨S1x4096, .i32⟩) ![(.of main_v6_3 : StableHlo.TRef sig ⟨S_, .i32⟩), (.of main_while0b_call1_c : StableHlo.TRef sig ⟨S_, .i32⟩)] (.of main_while0b_v43 : StableHlo.TRef sig ⟨S1000x4096, .i32⟩) (fun x u i => Host.dynamicUpdateSlice x u (fun k => (i k (Shape.Idx.first h_S_)).toInt) updateFits_S1000x4096_S1x4096) ]

theorem putI_sub : (putIOps : List (HloOp τ sig (Elt F))).Forall fun op => op.bufs ⊆ StableHlo.tcRefs τ sig :=
  ⟨StableHlo.unary_bufs_sub .., StableHlo.nullary_bufs_sub .., StableHlo.binaryIndexed_bufs_sub ..⟩

theorem putI_fresh : (putIOps : List (HloOp τ sig (Elt F))).Forall fun op => op.fresh = ∅ :=
  StableHlo.forall_fresh_of_map rfl

/-- The references that `putIOps` writes. -/
abbrev putIW : List (Ref sig .tc) :=
  [main_while0b_call1_v0, main_while0b_call1_c, main_while0b_v43]

theorem putI_writes : (putIOps : List (HloOp τ sig (Elt F))).Forall fun op =>
    op.writes ⊆ (putIW.map (Proc.devRef (τ := τ) .tc)).toFinset :=
  StableHlo.forall_writes_sub_of_map rfl

/-- `putIOps` leaves every other reference as it was. -/
theorem putI_keep (V : Valuation τ sig (Elt F)) {r : Ref sig .tc} (h : r ∉ putIW) :
    StableHlo.after putIOps V (Proc.devRef .tc r) = V (Proc.devRef .tc r) :=
  StableHlo.after_of_writes_sub putIOps V putI_writes h

/-- The operations of a trip: the row of sizes written, in order. -/
abbrev putNOps : List (HloOp τ sig (Elt F)) :=
  [ StableHlo.TRef.unary (.of main_while0b_v38 : StableHlo.TRef sig ⟨S512x1, .f32⟩) (.of main_while0b_call2_v0 : StableHlo.TRef sig ⟨S1x512x1, .f32⟩) (broadcastInDim S1x512x1 ![1, 2] bcast_S512x1_S1x512x1_1_2),
    StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.binaryIndexed (.of main_v6_6 : StableHlo.TRef sig ⟨S1000x512x1, .f32⟩) (.of main_while0b_call2_v0 : StableHlo.TRef sig ⟨S1x512x1, .f32⟩) ![(.of main_v6_3 : StableHlo.TRef sig ⟨S_, .i32⟩), (.of main_while0b_call2_c : StableHlo.TRef sig ⟨S_, .i32⟩), (.of main_while0b_call2_c_0 : StableHlo.TRef sig ⟨S_, .i32⟩)] (.of main_while0b_v44 : StableHlo.TRef sig ⟨S1000x512x1, .f32⟩) (fun x u i => Host.dynamicUpdateSlice x u (fun k => (i k (Shape.Idx.first h_S_)).toInt) updateFits_S1000x512x1_S1x512x1) ]

theorem putN_sub : (putNOps : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩

theorem putN_fresh : (putNOps : List (HloOp τ sig (Elt F))).Forall fun op => op.fresh = ∅ :=
  StableHlo.forall_fresh_of_map rfl

/-- The references that `putNOps` writes. -/
abbrev putNW : List (Ref sig .tc) :=
  [main_while0b_call2_v0, main_while0b_call2_c, main_while0b_call2_c_0, main_while0b_v44]

theorem putN_writes : (putNOps : List (HloOp τ sig (Elt F))).Forall fun op =>
    op.writes ⊆ (putNW.map (Proc.devRef (τ := τ) .tc)).toFinset :=
  StableHlo.forall_writes_sub_of_map rfl

/-- `putNOps` leaves every other reference as it was. -/
theorem putN_keep (V : Valuation τ sig (Elt F)) {r : Ref sig .tc} (h : r ∉ putNW) :
    StableHlo.after putNOps V (Proc.devRef .tc r) = V (Proc.devRef .tc r) :=
  StableHlo.after_of_writes_sub putNOps V putN_writes h

/-- The operations of a trip: the counter, and what the trip hands the next, in order. -/
abbrev backOps : List (HloOp τ sig (Elt F)) :=
  [ StableHlo.nullary main_while0b_c_18 (constantI S_ 32 1#32),
    StableHlo.binary main_v6_3 main_while0b_c_18 main_while0b_v45 (addi : (⟨S_, .i32⟩ : BufTy).Contents (Elt F) → (⟨S_, .i32⟩ : BufTy).Contents (Elt F) → (⟨S_, .i32⟩ : BufTy).Contents (Elt F)),
    StableHlo.unary main_while0b_v45 main_v6_3 id,
    StableHlo.unary main_while0b_v42 main_v6_4 id,
    StableHlo.unary main_while0b_v43 main_v6_5 id,
    StableHlo.unary main_while0b_v44 main_v6_6 id ]

theorem back_sub : (backOps : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩

theorem back_fresh : (backOps : List (HloOp τ sig (Elt F))).Forall fun op => op.fresh = ∅ :=
  StableHlo.forall_fresh_of_map rfl

/-- The references that `backOps` writes. -/
abbrev backW : List (Ref sig .tc) :=
  [main_while0b_c_18, main_while0b_v45, main_v6_3, main_v6_4, main_v6_5, main_v6_6]

theorem back_writes : (backOps : List (HloOp τ sig (Elt F))).Forall fun op =>
    op.writes ⊆ (backW.map (Proc.devRef (τ := τ) .tc)).toFinset :=
  StableHlo.forall_writes_sub_of_map rfl

/-- `backOps` leaves every other reference as it was. -/
theorem back_keep (V : Valuation τ sig (Elt F)) {r : Ref sig .tc} (h : r ∉ backW) :
    StableHlo.after backOps V (Proc.devRef .tc r) = V (Proc.devRef .tc r) :=
  StableHlo.after_of_writes_sub backOps V back_writes h

/-- The operations of @main after its loop, in order. -/
abbrev finishOps : List (HloOp τ sig (Elt F)) :=
  [ StableHlo.unary main_v6_5 main_v7 ((extractStridedSlice S1x4096 ![999, 0] · slices_S1000x4096_S1x4096_999_0) : (⟨S1000x4096, .i32⟩ : BufTy).Contents (Elt F) → (⟨S1x4096, .i32⟩ : BufTy).Contents (Elt F)),
    StableHlo.reshape main_v7 main_v8 (rfl : (.i32 : EltTy) = .i32) shapeCasts_S1x4096_S4096,
    StableHlo.unary main_v6_6 main_v9 ((extractStridedSlice S1x512x1 ![999, 0, 0] · slices_S1000x512x1_S1x512x1_999_0_0) : (⟨S1000x512x1, .f32⟩ : BufTy).Contents (Elt F) → (⟨S1x512x1, .f32⟩ : BufTy).Contents (Elt F)),
    StableHlo.reshape main_v9 main_v10 (rfl : (.f32 : EltTy) = .f32) shapeCasts_S1x512x1_S512x1 ]

theorem finish_sub : (finishOps : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub ..⟩

theorem finish_fresh : (finishOps : List (HloOp τ sig (Elt F))).Forall fun op => op.fresh = ∅ :=
  StableHlo.forall_fresh_of_map rfl

/-- The references that `finishOps` writes. -/
abbrev finishW : List (Ref sig .tc) :=
  [main_v7, main_v8, main_v9, main_v10]

theorem finish_writes : (finishOps : List (HloOp τ sig (Elt F))).Forall fun op =>
    op.writes ⊆ (finishW.map (Proc.devRef (τ := τ) .tc)).toFinset :=
  StableHlo.forall_writes_sub_of_map rfl

/-- `finishOps` leaves every other reference as it was. -/
theorem finish_keep (V : Valuation τ sig (Elt F)) {r : Ref sig .tc} (h : r ∉ finishW) :
    StableHlo.after finishOps V (Proc.devRef .tc r) = V (Proc.devRef .tc r) :=
  StableHlo.after_of_writes_sub finishOps V finish_writes h

/-- `main` is the set-up, the loop and the final reads. -/
theorem main_chain (c : Dev nD) : main (F := F) c = (Pipeline.chain
    [StableHlo.seq setupOps, HostLoop.enter 0, StableHlo.seq finishOps]
    : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons]
  chain_rfl

/-- The loop's body is its eight stretches. -/
theorem body_chain : main_while0_body (F := F) = (Pipeline.chain
    [StableHlo.seq distOps, StableHlo.seq nearOps, StableHlo.seq sumOps, StableHlo.seq countOps,
     StableHlo.seq meanOps, StableHlo.seq putIOps, StableHlo.seq putNOps, StableHlo.seq backOps]
    : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, StableHlo.chain_seq_cons,
    StableHlo.chain_seq_cons, Pipeline.chain_cons, Pipeline.chain_cons, StableHlo.chain_seq_cons]
  chain_rfl

end Cert.Proof.Ref

end
-- ==== Proof.Ref.Run.lean ====
/-
  The reference's run. Each stretch's results as functions of what it reads; the loop's counter, and that its condition
  tells whether fewer than 1000 trips have run; then what `main` leaves: `trips` of the arguments, and the arguments.
-/
module

public import proofs.«01_k».proof.Proof.Ref.Ops
public import Idealize.ShloMosaic.Lib.Quiescent

@[expose] public section

set_option maxRecDepth 16384

noncomputable section

namespace Cert.Proof.Ref

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)
open Cert.ReferenceIdeal Cert.ReferenceIdeal.Gen

variable {F : FTy → Type} [FloatOps F]

/-! ## The mathematics of one trip -/

section
variable (F)
/-- The points' type, the centroids', the column of the sizes', the assignments', and the two histories'. -/
abbrev Points := (⟨S4096x32, .f32⟩ : BufTy).Contents (Elt F)
abbrev Cents := (⟨S512x32, .f32⟩ : BufTy).Contents (Elt F)
abbrev Sizes := (⟨S512x1, .f32⟩ : BufTy).Contents (Elt F)
abbrev Assign := (⟨S4096, .i32⟩ : BufTy).Contents (Elt F)
abbrev Column := (⟨S4096x1, .f32⟩ : BufTy).Contents (Elt F)
abbrev Dists := (⟨S4096x512, .f32⟩ : BufTy).Contents (Elt F)
abbrev HistI := (⟨S1000x4096, .i32⟩ : BufTy).Contents (Elt F)
abbrev HistN := (⟨S1000x512x1, .f32⟩ : BufTy).Contents (Elt F)
end

/-- The column of ones. -/
def ones : Column F := broadcastInDim S4096x1 ![] bcast_S_S4096x1 (constant S_ .f32 0x3F800000#32)

/-- The squared length of every point, a column. -/
def lengths (e : Points F) : Column F :=
  broadcastInDim S4096x1 ![0] bcast_S4096_S4096x1_0
    (Host.reduceAdd (mulf e e) (constant S_ .f32 0x00000000#32) reducesTo_S4096x32_S4096_d1 h_S_)

/-- The squared distances of the points to the centroids, `q` the points' squared lengths. -/
def dists (e : Points F) (q : Column F) (c : Cents F) : Dists F :=
  addf
    (subf (broadcastInDim S4096x512 ![0, 1] bcast_S4096x1_S4096x512_0_1 q)
      (mulf (broadcastInDim S4096x512 ![] bcast_S_S4096x512 (constant S_ .f32 0x40000000#32))
        (Host.dotGeneral dot_S4096x32_S32x512_S4096x512_1_0_0_1_n_n none e
          (transpose S32x512 [1, 0] c transposes_S512x32_S32x512_1_0))))
    (broadcastInDim S4096x512 ![0, 1] bcast_S1x512_S4096x512_0_1
      (broadcastInDim S1x512 ![1] bcast_S512_S1x512_1
        (Host.reduceAdd (mulf c c) (constant S_ .f32 0x00000000#32) reducesTo_S512x32_S512_d1 h_S_)))

/-- The index of the least distance of every point. -/
def nearest (d : Dists F) : Assign F := fun j =>
  (Host.argReduce reducer_argmin_f32_i32 d (iotaInDim S4096x512 32 1) (constant S_ .f32 0x7F800000#32)
    (constantI S_ 32 0#32) reducesTo_S4096x512_S4096_d1 h_S_ j).2

/-- The indices with a negative one counted from the end, a column. -/
def wrapped (i : Assign F) : (⟨S4096x1, .i32⟩ : BufTy).Contents (Elt F) :=
  broadcastInDim S4096x1 ![0] bcast_S4096_S4096x1_0
    (select (cmpi .slt i (broadcastInDim S4096 ![] bcast_S_S4096 (constantI S_ 32 0#32)))
      (addi i (broadcastInDim S4096 ![] bcast_S_S4096 (constantI S_ 32 512#32))) i)

/-- The sum of the points of every cluster. -/
def sums (e : Points F) (i : Assign F) : Cents F :=
  Host.scatterAdd scatter_S512x32_S4096x1_S4096x32_1_0_0_1
    (broadcastInDim S512x32 ![] bcast_S_S512x32 (constant S_ .f32 0x00000000#32)) (wrapped i) e

/-- The number of points of every cluster, `o` the column of ones. -/
def sizes (o : Column F) (i : Assign F) : Sizes F :=
  Host.scatterAdd scatter_S512x1_S4096x1_S4096x1_1_0_0_1
    (broadcastInDim S512x1 ![] bcast_S_S512x1 (constant S_ .f32 0x00000000#32)) (wrapped i) o

/-- The sums over the sizes. -/
def means (s : Cents F) (n : Sizes F) : Cents F :=
  Host.divf s (broadcastInDim S512x32 ![0, 1] bcast_S512x1_S512x32_0_1
    (addf n (broadcastInDim S512x1 ![] bcast_S_S512x1 (constant S_ .f32 0x358637BD#32))))

/-- The assignments written as row `k` of their history. -/
def putI (h : HistI F) (i : Assign F) (k : (⟨S_, .i32⟩ : BufTy).Contents (Elt F)) : HistI F :=
  Host.dynamicUpdateSlice h (broadcastInDim S1x4096 ![1] bcast_S4096_S1x4096_1 i)
    (fun d => ((![k, constantI S_ 32 0#32] : Fin 2 → (⟨S_, .i32⟩ : BufTy).Contents (Elt F)) d
      (Shape.Idx.first h_S_)).toInt) updateFits_S1000x4096_S1x4096

/-- The sizes written as row `k` of their history. -/
def putN (h : HistN F) (n : Sizes F) (k : (⟨S_, .i32⟩ : BufTy).Contents (Elt F)) : HistN F :=
  Host.dynamicUpdateSlice h (broadcastInDim S1x512x1 ![1, 2] bcast_S512x1_S1x512x1_1_2 n)
    (fun d => ((![k, constantI S_ 32 0#32, constantI S_ 32 0#32] : Fin 3 → (⟨S_, .i32⟩ : BufTy).Contents (Elt F)) d
      (Shape.Idx.first h_S_)).toInt) updateFits_S1000x512x1_S1x512x1

/-! ## What each stretch computes -/

variable (V : Valuation τ sig (Elt F))

theorem dist_val : after distOps V (Proc.devRef .tc main_while0b_v21) =
    dists (V (Proc.devRef .tc main_v6_0)) (V (Proc.devRef .tc main_v6_1)) (V (Proc.devRef .tc main_v6_4)) := by
  after_results
  rfl

theorem near_val : after nearOps V (Proc.devRef .tc main_while0b_v22) =
    nearest (V (Proc.devRef .tc main_while0b_v21)) := by
  after_results
  rfl

theorem sum_val : after sumOps V (Proc.devRef .tc main_while0b_v30) =
    sums (V (Proc.devRef .tc main_v6_0)) (V (Proc.devRef .tc main_while0b_v22)) := by
  after_results
  rfl

theorem count_val : after countOps V (Proc.devRef .tc main_while0b_v38) =
    sizes (V (Proc.devRef .tc main_v6_2)) (V (Proc.devRef .tc main_while0b_v22)) := by
  after_results
  rfl

theorem mean_val : after meanOps V (Proc.devRef .tc main_while0b_v42) =
    means (V (Proc.devRef .tc main_while0b_v30)) (V (Proc.devRef .tc main_while0b_v38)) := by
  after_results
  rfl

theorem putI_val : after putIOps V (Proc.devRef .tc main_while0b_v43) =
    putI (V (Proc.devRef .tc main_v6_5)) (V (Proc.devRef .tc main_while0b_v22)) (V (Proc.devRef .tc main_v6_3)) := by
  unfold putI
  simp only [putIOps]
  after_results_entrywise [cast_eq]

theorem putN_val : after putNOps V (Proc.devRef .tc main_while0b_v44) =
    putN (V (Proc.devRef .tc main_v6_6)) (V (Proc.devRef .tc main_while0b_v38)) (V (Proc.devRef .tc main_v6_3)) := by
  unfold putN
  simp only [putNOps]
  after_results_entrywise [cast_eq]

theorem back_ctr : after backOps V (Proc.devRef .tc main_v6_3) =
    addi (V (Proc.devRef .tc main_v6_3)) (constantI S_ 32 1#32) := by
  after_results
  rfl

theorem back_cents : after backOps V (Proc.devRef .tc main_v6_4) = V (Proc.devRef .tc main_while0b_v42) := by
  after_results
  rfl

theorem back_histI : after backOps V (Proc.devRef .tc main_v6_5) = V (Proc.devRef .tc main_while0b_v43) := by
  after_results
  rfl

theorem back_histN : after backOps V (Proc.devRef .tc main_v6_6) = V (Proc.devRef .tc main_while0b_v44) := by
  after_results
  rfl

theorem setup_points : after setupOps V (Proc.devRef .tc main_v6_0) = V (Proc.devRef .tc main_arg0) := by
  after_results
  rfl

theorem setup_lengths : after setupOps V (Proc.devRef .tc main_v6_1) = lengths (V (Proc.devRef .tc main_arg0)) := by
  after_results
  rfl

theorem setup_ones : after setupOps V (Proc.devRef .tc main_v6_2) = ones (F := F) := by
  after_results
  rfl

theorem setup_ctr : after setupOps V (Proc.devRef .tc main_v6_3) = fun _ => (0#32 : BitVec 32) := by
  after_results
  rfl

theorem setup_cents : after setupOps V (Proc.devRef .tc main_v6_4) = V (Proc.devRef .tc main_arg1) := by
  after_results
  rfl

/-- Row 999 of the assignments' history. -/
def lastI (h : HistI F) : Assign F :=
  shapeCast S4096 (extractStridedSlice S1x4096 ![999, 0] h slices_S1000x4096_S1x4096_999_0) shapeCasts_S1x4096_S4096

/-- Row 999 of the sizes' history. -/
def lastN (h : HistN F) : Sizes F :=
  shapeCast S512x1 (extractStridedSlice S1x512x1 ![999, 0, 0] h slices_S1000x512x1_S1x512x1_999_0_0)
    shapeCasts_S1x512x1_S512x1

theorem finish_I : after finishOps V (Proc.devRef .tc main_v8) = lastI (V (Proc.devRef .tc main_v6_5)) := by
  after_results
  rfl

theorem finish_N : after finishOps V (Proc.devRef .tc main_v10) = lastN (V (Proc.devRef .tc main_v6_6)) := by
  after_results
  rfl

/-! ## A whole trip -/

/-- What comes before the loop, a trip's stretches, and what comes after the loop. -/
abbrev preI : List (List (HloOp τ sig (Elt F))) := [setupOps]
abbrev bodyI : List (List (HloOp τ sig (Elt F))) :=
  [distOps, nearOps, sumOps, countOps, meanOps, putIOps, putNOps, backOps]
abbrev postI : List (List (HloOp τ sig (Elt F))) := [finishOps]

theorem pre_plain : Plain (preI (F := F)) :=
  .cons setup_sub (hf := List.forall_iff_forall_mem.mp setup_fresh) .nil

theorem body_plain : Plain (bodyI (F := F)) :=
  .cons dist_sub (hf := List.forall_iff_forall_mem.mp dist_fresh)
  (.cons near_sub (hf := List.forall_iff_forall_mem.mp near_fresh)
  (.cons sum_sub (hf := List.forall_iff_forall_mem.mp sum_fresh)
  (.cons count_sub (hf := List.forall_iff_forall_mem.mp count_fresh)
  (.cons mean_sub (hf := List.forall_iff_forall_mem.mp mean_fresh)
  (.cons putI_sub (hf := List.forall_iff_forall_mem.mp putI_fresh)
  (.cons putN_sub (hf := List.forall_iff_forall_mem.mp putN_fresh)
  (.cons back_sub (hf := List.forall_iff_forall_mem.mp back_fresh) .nil)))))))

theorem post_plain : Plain (postI (F := F)) :=
  .cons finish_sub (hf := List.forall_iff_forall_mem.mp finish_fresh) .nil

/-- The condition and then the body. -/
def trip : Valuation τ sig (Elt F) := afterL bodyI (after condOps V)

/-- A trip as its stretches one after the other. -/
theorem trip_eq : trip V = after backOps (after putNOps (after putIOps (after meanOps (after countOps (after sumOps
    (after nearOps (after distOps (after condOps V)))))))) := by
  simp only [trip, afterL_cons, afterL_nil]

/-- What a trip hands the next, less the counter: centroids, and the two histories. -/
structure State (F : FTy → Type) [FloatOps F] where
  cents : Cents F
  histI : HistI F
  histN : HistN F

/-- The assignments a trip makes. -/
def idxOf (e : Points F) (c : Cents F) : Assign F := nearest (dists e (lengths e) c)

/-- The sizes a trip finds. -/
def sizesOf (e : Points F) (c : Cents F) : Sizes F := sizes ones (idxOf e c)

/-- The centroids a trip ends with. -/
def centsOf (e : Points F) (c : Cents F) : Cents F := means (sums e (idxOf e c)) (sizesOf e c)

/-- Trip number `k`. -/
def step (e : Points F) (k : ℕ) (s : State F) : State F where
  cents := centsOf e s.cents
  histI := putI s.histI (idxOf e s.cents) (fun _ => Scf.iv 0#32 1#32 k)
  histN := putN s.histN (sizesOf e s.cents) (fun _ => Scf.iv 0#32 1#32 k)

/-- The buffers hold the state `s` before trip number `k`, and the loop's constants. -/
structure Holds (e : Points F) (k : ℕ) (s : State F) : Prop where
  points : V (Proc.devRef .tc main_v6_0) = e
  lengths : V (Proc.devRef .tc main_v6_1) = lengths e
  ones : V (Proc.devRef .tc main_v6_2) = ones (F := F)
  ctr : V (Proc.devRef .tc main_v6_3) = fun _ => Scf.iv 0#32 1#32 k
  cents : V (Proc.devRef .tc main_v6_4) = s.cents
  histI : V (Proc.devRef .tc main_v6_5) = s.histI
  histN : V (Proc.devRef .tc main_v6_6) = s.histN

/-- A reference that no stretch of a trip writes keeps its contents. -/
theorem trip_keep {r : Ref sig .tc} (h0 : r ∉ condW) (h1 : r ∉ distW) (h2 : r ∉ nearW) (h3 : r ∉ sumW)
    (h4 : r ∉ countW) (h5 : r ∉ meanW) (h6 : r ∉ putIW) (h7 : r ∉ putNW) (h8 : r ∉ backW) :
    trip V (Proc.devRef .tc r) = V (Proc.devRef .tc r) := by
  rw [trip_eq, back_keep _ h8, putN_keep _ h7, putI_keep _ h6, mean_keep _ h5, count_keep _ h4, sum_keep _ h3,
    near_keep _ h2, dist_keep _ h1, cond_keep _ h0]

theorem trip_ctr : trip V (Proc.devRef .tc main_v6_3) = addi (V (Proc.devRef .tc main_v6_3)) (constantI S_ 32 1#32) := by
  rw [trip_eq, back_ctr, putN_keep _ (by decide), putI_keep _ (by decide), mean_keep _ (by decide),
    count_keep _ (by decide), sum_keep _ (by decide), near_keep _ (by decide), dist_keep _ (by decide),
    cond_keep _ (by decide)]

/-- The counter one trip on. -/
theorem ctr_succ (k : ℕ) (h : V (Proc.devRef .tc main_v6_3) = fun _ => Scf.iv 0#32 1#32 k) :
    trip V (Proc.devRef .tc main_v6_3) = fun _ => Scf.iv 0#32 1#32 (k + 1) := by
  rw [trip_ctr, h, Scf.iv_succ]
  rfl

variable {V} in
/-- The assignments inside a trip, where they are read. -/
theorem idx_at {e : Points F} {k : ℕ} {s : State F} (h : Holds V e k s) :
    after nearOps (after distOps (after condOps V)) (Proc.devRef .tc main_while0b_v22) = idxOf e s.cents := by
  rw [near_val, dist_val, cond_keep _ (by decide), cond_keep _ (by decide), cond_keep _ (by decide), h.points,
    h.lengths, h.cents]
  rfl

variable {V} in
/-- The sizes inside a trip, where they are read. -/
theorem sizes_at {e : Points F} {k : ℕ} {s : State F} (h : Holds V e k s) :
    after countOps (after sumOps (after nearOps (after distOps (after condOps V)))) (Proc.devRef .tc main_while0b_v38)
      = sizesOf e s.cents := by
  rw [count_val, sum_keep _ (by decide), sum_keep _ (by decide), idx_at h, near_keep _ (by decide),
    dist_keep _ (by decide), cond_keep _ (by decide), h.ones]
  rfl

variable {V} in
/-- A trip takes the state to the next one. -/
theorem holds_step {e : Points F} {k : ℕ} {s : State F} (h : Holds V e k s) : Holds (trip V) e (k + 1) (step e k s) where
  points := (trip_keep V (by decide) (by decide) (by decide) (by decide) (by decide) (by decide) (by decide)
    (by decide) (by decide)).trans h.points
  lengths := (trip_keep V (by decide) (by decide) (by decide) (by decide) (by decide) (by decide) (by decide)
    (by decide) (by decide)).trans h.lengths
  ones := (trip_keep V (by decide) (by decide) (by decide) (by decide) (by decide) (by decide) (by decide)
    (by decide) (by decide)).trans h.ones
  ctr := ctr_succ V k h.ctr
  cents := by
    rw [trip_eq, back_cents, putN_keep _ (by decide), putI_keep _ (by decide), mean_val, sizes_at h,
      count_keep _ (by decide), sum_val, idx_at h, near_keep _ (by decide), dist_keep _ (by decide),
      cond_keep _ (by decide), h.points]
    rfl
  histI := by
    rw [trip_eq, back_histI, putN_keep _ (by decide), putI_val]
    simp only [mean_keep _ (show main_v6_5 ∉ meanW by decide), mean_keep _ (show main_v6_3 ∉ meanW by decide),
      mean_keep _ (show main_while0b_v22 ∉ meanW by decide)]
    simp only [count_keep _ (show main_v6_5 ∉ countW by decide), count_keep _ (show main_v6_3 ∉ countW by decide),
      count_keep _ (show main_while0b_v22 ∉ countW by decide)]
    simp only [sum_keep _ (show main_v6_5 ∉ sumW by decide), sum_keep _ (show main_v6_3 ∉ sumW by decide),
      sum_keep _ (show main_while0b_v22 ∉ sumW by decide)]
    rw [idx_at h]
    simp only [near_keep _ (show main_v6_5 ∉ nearW by decide), near_keep _ (show main_v6_3 ∉ nearW by decide)]
    simp only [dist_keep _ (show main_v6_5 ∉ distW by decide), dist_keep _ (show main_v6_3 ∉ distW by decide)]
    simp only [cond_keep _ (show main_v6_5 ∉ condW by decide), cond_keep _ (show main_v6_3 ∉ condW by decide)]
    rw [h.histI, h.ctr]
    rfl
  histN := by
    rw [trip_eq, back_histN, putN_val]
    simp only [putI_keep _ (show main_v6_6 ∉ putIW by decide), putI_keep _ (show main_v6_3 ∉ putIW by decide),
      putI_keep _ (show main_while0b_v38 ∉ putIW by decide)]
    simp only [mean_keep _ (show main_v6_6 ∉ meanW by decide), mean_keep _ (show main_v6_3 ∉ meanW by decide),
      mean_keep _ (show main_while0b_v38 ∉ meanW by decide)]
    rw [sizes_at h]
    simp only [count_keep _ (show main_v6_6 ∉ countW by decide), count_keep _ (show main_v6_3 ∉ countW by decide)]
    simp only [sum_keep _ (show main_v6_6 ∉ sumW by decide), sum_keep _ (show main_v6_3 ∉ sumW by decide)]
    simp only [near_keep _ (show main_v6_6 ∉ nearW by decide), near_keep _ (show main_v6_3 ∉ nearW by decide)]
    simp only [dist_keep _ (show main_v6_6 ∉ distW by decide), dist_keep _ (show main_v6_3 ∉ distW by decide)]
    simp only [cond_keep _ (show main_v6_6 ∉ condW by decide), cond_keep _ (show main_v6_3 ∉ condW by decide)]
    rw [h.histN, h.ctr]
    rfl

end Cert.Proof.Ref

end
-- ==== Proof.Ref.Fold.lean ====
/-
  The reference's run, from any memory: it ends with every unscoped buffer at 1000 trips' contents (`run_fold`), so its
  results are `rounds` of its arguments and the arguments are as they were (`run_main`).
-/
module

public import proofs.«01_k».proof.Proof.Ref.Run

@[expose] public section

set_option maxRecDepth 16384

noncomputable section

namespace Cert.Proof.Ref

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)
open Cert.ReferenceIdeal Cert.ReferenceIdeal.Gen

variable {F : FTy → Type} [FloatOps F]

variable (m : (ℓ : Loc nD τ sig) → Buf (Elt F) ℓ) (ρ : Dev nD → PrngReg)

/-- Every buffer's contents before the `k`-th run of the condition, counted from 0. -/
abbrev at' (k : ℕ) (c : Dev nD) : Valuation τ sig (Elt F) := atTrip condOps bodyI (entryContents preI m) k c

/-- The contents on entry are those the set-up leaves. -/
theorem at_zero (c : Dev nD) : ∃ V : Valuation τ sig (Elt F), at' m 0 c = after setupOps V ∧
    V (Proc.devRef .tc main_arg0) = m ((c.tc : Thread nD τ).loc main_arg0) ∧
    V (Proc.devRef .tc main_arg1) = m ((c.tc : Thread nD τ).loc main_arg1) :=
  ⟨_, rfl, rfl, rfl⟩

theorem at_succ (k : ℕ) (c : Dev nD) : at' m (k + 1) c = trip (at' m k c) := rfl

/-- Before the `k`-th condition the counter counts `k` trips. -/
theorem at_ctr (c : Dev nD) (k : ℕ) : at' m k c (Proc.devRef .tc main_v6_3) = fun _ => Scf.iv 0#32 1#32 k := by
  induction k with
  | zero =>
    obtain ⟨V, hV, -, -⟩ := at_zero m c
    rw [hV, setup_ctr, Scf.iv_zero]
  | succ k ih => rw [at_succ, ctr_succ _ k ih]

set_option backward.isDefEq.respectTransparency.types false in
/-- The condition holds as long as fewer than 1000 trips have run. -/
theorem cond_spec : CondSpec (pcfgs (F := F)) defs₀ loops (main_while0_cond (F := F)) condOps bodyI
    (entryContents preI m) 1000 := by
  intro k hk c bd
  have hctr := at_ctr m c k
  unfold main_while0_cond
  rw [wp_bind]
  iintro ⟨Hb, Hh⟩
  iapply (wp_hlo_within (Variants.lift Variants.none) (c : Thread nD τ) bd Set.univ
    (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ
    (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at' m k c) main_v6_3 HostLoop.idx0)
        (HloOp.result _ (at' m k c) main_while0c_c_9 HostLoop.idx0) = 1#1) (k < 1000)
    rw [nullary_result_ne _ _ _ _ (by decide), nullary_result, hctr]
    exact Scf.cmpi_slt_iv_ub_iff (lb := 0#32) (ub := 1000#32) (st := 1#32) (by decide)
      (show k ≤ Scf.trips 0#32 1000#32 1#32 from hk)
  isplitl [Hb]; · iexact Hb
  rw [after_cons, after_cons, after_nil]; iexact Hh

set_option maxRecDepth 100000 in
/-- Every execution ends with the unscoped buffers at the contents of 1000 trips. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 1000 m c (Proc.devRef .tc b)) :=
  run_loop (pcfgs (F := F)) defs₀ loops main 0 main_while0_cond main_while0_body rfl preI bodyI postI condOps
    pre_plain body_plain post_plain (fun c => by rw [main_chain]; rfl) (by rw [body_chain]; rfl) 1000 m ρ (cond_spec m)

/-- The final contents: after the loop and the operations that follow it. -/
theorem final_eq (c : Dev nD) :
    finalContents condOps preI bodyI postI 1000 m c = after finishOps (after condOps (at' m 1000 c)) := by
  simp only [finalContents, afterL_cons, afterL_nil]

/-- The state after `k` trips from `s`. -/
def rounds (e : Points F) (s : State F) : ℕ → State F
  | 0 => s
  | k + 1 => step e k (rounds e s k)

/-- The points and the first centroids. -/
abbrev pts (c : Dev nD) : Points F := m ((c.tc : Thread nD τ).loc main_arg0)
abbrev cen (c : Dev nD) : Cents F := m ((c.tc : Thread nD τ).loc main_arg1)

/-- Before the `k`-th condition the buffers hold the state after `k` trips from the first centroids. -/
theorem at_holds (c : Dev nD) : ∃ hI : HistI F, ∃ hN : HistN F, ∀ k,
    Holds (at' m k c) (pts m c) k (rounds (pts m c) ⟨cen m c, hI, hN⟩ k) := by
  obtain ⟨V, hV, h0, h1⟩ := at_zero m c
  refine ⟨after setupOps V (Proc.devRef .tc main_v6_5), after setupOps V (Proc.devRef .tc main_v6_6), fun k => ?_⟩
  induction k with
  | zero =>
    rw [hV]
    exact ⟨(setup_points V).trans h0, (setup_lengths V).trans (congrArg lengths h0), setup_ones V,
      (setup_ctr V).trans (by rw [Scf.iv_zero]), (setup_cents V).trans h1, rfl, rfl⟩
  | succ k ih => rw [at_succ]; exact holds_step ih

/-- A reference of `main`'s arguments keeps its contents through every trip. -/
theorem at_keep (c : Dev nD) {r : Ref sig .tc} (hs : r ∉ setupW) (h0 : r ∉ condW) (h1 : r ∉ distW) (h2 : r ∉ nearW)
    (h3 : r ∉ sumW) (h4 : r ∉ countW) (h5 : r ∉ meanW) (h6 : r ∉ putIW) (h7 : r ∉ putNW) (h8 : r ∉ backW) (k : ℕ) :
    at' m k c (Proc.devRef .tc r) = m ((c.tc : Thread nD τ).loc r) := by
  induction k with
  | zero => exact setup_keep _ hs
  | succ k ih => rw [at_succ, trip_keep _ h0 h1 h2 h3 h4 h5 h6 h7 h8, ih]

/-- What the reference leaves on device `c`, `hI` and `hN` the histories its loop starts with. -/
structure Post (r : PUnit × MemSt nD τ sig (Elt F)) (c : Dev nD) (hI : HistI F) (hN : HistN F) : Prop where
  cents : r.2.mem ((c.tc : Thread nD τ).loc main_v6_4) = (rounds (pts m c) ⟨cen m c, hI, hN⟩ 1000).cents
  idx : r.2.mem ((c.tc : Thread nD τ).loc main_v8) = lastI (rounds (pts m c) ⟨cen m c, hI, hN⟩ 1000).histI
  sizes : r.2.mem ((c.tc : Thread nD τ).loc main_v10) = lastN (rounds (pts m c) ⟨cen m c, hI, hN⟩ 1000).histN
  arg0 : r.2.mem ((c.tc : Thread nD τ).loc main_arg0) = m ((c.tc : Thread nD τ).loc main_arg0)
  arg1 : r.2.mem ((c.tc : Thread nD τ).loc main_arg1) = m ((c.tc : Thread nD τ).loc main_arg1)

/-- The reference, from any memory: the state after 1000 trips, the arguments as they were, every semaphore zero. -/
theorem run_main : θ_run (defs (F := F)) (onTc (τ := τ) (main (F := F))) ⟨m, fun _ => 0, ρ⟩
    (fun r => (∀ c, ∃ hI hN, Post m r c hI hN) ∧ r.2.sem = fun _ => 0) := by
  refine (run_fold m ρ).mono ?_
  intro st hr
  refine ⟨fun c => ?_, Idealize.ShloMosaic.sem_eq_zero_of_no_sems (by decide) st⟩
  obtain ⟨hI, hN, h⟩ := at_holds m c
  refine ⟨hI, hN, ⟨?_, ?_, ?_, ?_, ?_⟩⟩
  · rw [hr c main_v6_4 (by decide), final_eq, finish_keep _ (by decide), cond_keep _ (by decide), (h 1000).cents]
  · rw [hr c main_v8 (by decide), final_eq, finish_I, cond_keep _ (by decide), (h 1000).histI]
  · rw [hr c main_v10 (by decide), final_eq, finish_N, cond_keep _ (by decide), (h 1000).histN]
  · rw [hr c main_arg0 (by decide), final_eq, finish_keep _ (by decide), cond_keep _ (by decide)]
    exact at_keep m c (by decide) (by decide) (by decide) (by decide) (by decide) (by decide) (by decide) (by decide)
      (by decide) (by decide) 1000
  · rw [hr c main_arg1 (by decide), final_eq, finish_keep _ (by decide), cond_keep _ (by decide)]
    exact at_keep m c (by decide) (by decide) (by decide) (by decide) (by decide) (by decide) (by decide) (by decide)
      (by decide) (by decide) 1000

end Cert.Proof.Ref

end
-- ==== Proof.Math.Spec.lean ====
/-
  K-means on extended reals: the score of a point against a centroid, the least index at which a point's scores are
  smallest, and one round (the sums and the sizes of the clusters, the new centroids), as the mathematics both programs
  are compared with.
-/
module

public import Idealize.ShloMosaic.Lib.Pointwise
public import Idealize.ShloMosaic.Lib.KernelVsHost
public import Idealize.ShloMosaic.PureOps.Ideal.Laws

@[expose] public section

noncomputable section

namespace Cert.Proof.KMeans

open Idealize.ShloMosaic

/-- The number 2 as both programs write it. -/
abbrev two : EReal := Ideal.ofBits .f32 0x40000000#32

/-- What is added to a cluster's size before the division, as both programs write it. -/
abbrev eps : EReal := Ideal.ofBits .f32 0x358637BD#32

/-- The score of point `n` against centroid `k`: `|e|² - 2 e·c + |c|²`. -/
def score (e : Fin 4096 → Fin 32 → EReal) (c : Fin 512 → Fin 32 → EReal) (n : Fin 4096) (k : Fin 512) : EReal :=
  (∑ d, e n d * e n d) - two * (∑ d, e n d * c k d) + ∑ d, c k d * c k d

/-- Every finite family of extended reals is smallest somewhere. -/
theorem exists_least (f : Fin 512 → EReal) : ∃ k, ∀ k', f k ≤ f k' := by
  obtain ⟨k, _, hk⟩ := Finset.exists_min_image Finset.univ f ⟨0, Finset.mem_univ _⟩
  exact ⟨k, fun k' => hk k' (Finset.mem_univ _)⟩

/-- The indices at which a family is smallest. -/
def minima (f : Fin 512 → EReal) : Finset (Fin 512) := Finset.univ.filter fun k => ∀ k', f k ≤ f k'

theorem minima_nonempty (f : Fin 512 → EReal) : (minima f).Nonempty := by
  obtain ⟨k, hk⟩ := exists_least f
  exact ⟨k, Finset.mem_filter.mpr ⟨Finset.mem_univ _, hk⟩⟩

/-- The least index at which a family is smallest. -/
def least (f : Fin 512 → EReal) : Fin 512 := (minima f).min' (minima_nonempty f)

/-- The family is smallest at `least f`. -/
theorem least_le (f : Fin 512 → EReal) (k : Fin 512) : f (least f) ≤ f k :=
  (Finset.mem_filter.mp ((minima f).min'_mem (minima_nonempty f))).2 k

/-- No index at which the family is as small comes before `least f`. -/
theorem least_first (f : Fin 512 → EReal) (k : Fin 512) (hk : f k ≤ f (least f)) : least f ≤ k :=
  (minima f).min'_le k (Finset.mem_filter.mpr ⟨Finset.mem_univ _, fun k' => hk.trans (least_le f k')⟩)

/-- An index with the two properties is `least f`. -/
theorem eq_least (f : Fin 512 → EReal) (i : Fin 512) (h : ∀ k, f i ≤ f k) (h' : ∀ k, f k ≤ f i → i ≤ k) : i = least f :=
  le_antisymm (h' _ (least_le f i)) (least_first f i (h _))

/-- The cluster of point `n`. -/
def cluster (e : Fin 4096 → Fin 32 → EReal) (c : Fin 512 → Fin 32 → EReal) (n : Fin 4096) : Fin 512 := least (score e c n)

/-- The sum of the points of cluster `k`, at coordinate `d`. -/
def total (e : Fin 4096 → Fin 32 → EReal) (c : Fin 512 → Fin 32 → EReal) (k : Fin 512) (d : Fin 32) : EReal :=
  ∑ n, if cluster e c n = k then e n d else 0

/-- The number of points of cluster `k`. -/
def size (e : Fin 4096 → Fin 32 → EReal) (c : Fin 512 → Fin 32 → EReal) (k : Fin 512) : EReal :=
  ∑ n, if cluster e c n = k then 1 else 0

/-- The centroids after a round. -/
def next (e : Fin 4096 → Fin 32 → EReal) (c : Fin 512 → Fin 32 → EReal) (k : Fin 512) (d : Fin 32) : EReal :=
  Ideal.div (total e c k d) (size e c k + eps)

end Cert.Proof.KMeans
-- ==== Proof.Math.Numbers.lean ====
/-
  Numbers both programs write, at the extended reals: plus infinity, 512, an index as a float and back, the least
  entry of a row as a fold of `min`, the index the two folds of the kernel find, and the fold of a mask.
-/
module

public import proofs.«01_k».proof.Proof.Math.Spec

@[expose] public section

noncomputable section

namespace Cert.Proof.KMeans

open Idealize.ShloMosaic

/-- The pattern of plus infinity. -/
theorem ofBits_top : Ideal.ofBits .f32 0x7F800000#32 = ⊤ := by
  simp [Ideal.ofBits, Ideal.ieee]

/-- The pattern of 512. -/
theorem ofBits_512 : Ideal.ofBits .f32 0x44000000#32 = ((512 : ℝ) : EReal) := by
  simp [Ideal.ofBits, Ideal.ieee, -EReal.coe_mul]; norm_num

/-- A cluster's number as an extended real. -/
def num (k : Fin 512) : EReal := (((k.val : ℤ) : ℝ) : EReal)

theorem toInt_ofNat (k : Fin 512) : (BitVec.ofNat 32 k.val).toInt = (k.val : ℤ) := by
  have := k.isLt
  rw [BitVec.toInt_eq_toNat_cond, BitVec.toNat_ofNat]
  have h : k.val % 2 ^ 32 = k.val := Nat.mod_eq_of_lt (by omega)
  rw [h, if_pos (by omega)]

/-- An index word as a float. -/
theorem sitofp_ofNat (k : Fin 512) : (FloatOps.sitofp .f32 (BitVec.ofNat 32 k.val) : Ideal .f32) = num k := by
  change (((BitVec.ofNat 32 k.val).toInt : ℝ) : EReal) = num k
  rw [toInt_ofNat]; rfl

/-- The float of an index as a word again. -/
theorem fptosi_num (k : Fin 512) : Ideal.fptosi 32 (num k) = BitVec.ofNat 32 k.val := by
  have := k.isLt
  have h : (0 : ℝ) ≤ ((k.val : ℤ) : ℝ) := by positivity
  unfold Ideal.fptosi num
  rw [Ideal.toIntClamped_coe, if_pos h, Int.floor_intCast]
  have e : max (-((2 ^ (32 - 1) : ℕ) : ℤ)) (min (((2 ^ (32 - 1) : ℕ) : ℤ) - 1) (k.val : ℤ)) = (k.val : ℤ) := by omega
  rw [e, BitVec.ofInt_natCast]

theorem num_le {a b : Fin 512} : num a ≤ num b ↔ a ≤ b := by
  unfold num
  rw [EReal.coe_le_coe_iff, Int.cast_le, Fin.le_def]
  omega

theorem num_inj {a b : Fin 512} : num a = num b ↔ a = b :=
  ⟨fun h => le_antisymm (num_le.mp h.le) (num_le.mp h.ge), fun h => h ▸ rfl⟩

theorem num_le_512 (k : Fin 512) : num k ≤ ((512 : ℝ) : EReal) := by
  have := k.isLt
  unfold num
  rw [EReal.coe_le_coe_iff]
  have h : (k.val : ℤ) ≤ 512 := by omega
  exact_mod_cast h

/-- The least entry of a family, as a fold from plus infinity. -/
theorem fold_min_eq (f : Fin 512 → EReal) : Finset.univ.fold min ⊤ f = f (least f) := by
  apply le_antisymm
  · exact Finset.fold_min_le (f (least f)) |>.mpr (Or.inr ⟨least f, Finset.mem_univ _, le_rfl⟩)
  · exact Finset.le_fold_min (f (least f)) |>.mpr ⟨le_top, fun k _ => least_le f k⟩

/-- The least number of an index at which the family is smallest, 512 standing at every other index. -/
theorem fold_index_eq (f : Fin 512 → EReal) :
    Finset.univ.fold min ⊤ (fun k => if f k = f (least f) then num k else ((512 : ℝ) : EReal)) = num (least f) := by
  apply le_antisymm
  · refine (Finset.fold_min_le _).mpr (Or.inr ⟨least f, Finset.mem_univ _, ?_⟩)
    rw [if_pos rfl]
  · refine (Finset.le_fold_min _).mpr ⟨le_top, fun k _ => ?_⟩
    split_ifs with h
    · exact num_le.mpr (least_first f k h.le)
    · exact num_le_512 _

/-- The same, the smallest entry itself written as a fold. -/
theorem fold_index_eq' (f : Fin 512 → EReal) :
    Finset.univ.fold min ⊤ (fun k => if f k = Finset.univ.fold min ⊤ (fun k' => f k') then num k else ((512 : ℝ) : EReal))
      = num (least f) := by
  have h : Finset.univ.fold min ⊤ (fun k' => f k') = f (least f) := fold_min_eq f
  rw [h]
  exact fold_index_eq f

/-- The least entry of a mask of ones and zeros is positive exactly when the mask is one everywhere. -/
theorem fold_mask_pos {ι : Type} [Fintype ι] (p : ι → Prop) [DecidablePred p] :
    (0 : EReal) < Finset.univ.fold min ⊤ (fun i => if p i then (1 : EReal) else 0) ↔ ∀ i, p i := by
  rw [Finset.lt_fold_min]
  constructor
  · intro h i
    have := h.2 i (Finset.mem_univ _)
    by_contra hn
    rw [if_neg hn] at this
    exact lt_irrefl _ this
  · exact fun h => ⟨EReal.zero_lt_top, fun i _ => by rw [if_pos (h i)]; exact zero_lt_one⟩

end Cert.Proof.KMeans
-- ==== Proof.Math.Kernel.lean ====
/-
  The kernel's loop body at the extended reals, read at an index: the cluster of every point, the sums and the sizes,
  the new centroids, and when the flag that stops the loop is raised. The kernel carries the centroids transposed.
-/
module

public import proofs.«01_k».proof.Proof.PI.Run
public import proofs.«01_k».proof.Proof.Math.Numbers

@[expose] public section

set_option maxRecDepth 16384

noncomputable section

namespace Cert.Proof.KMeans

open Cert.KernelIdeal Cert.KernelIdeal.Gen
open Idealize.ShloMosaic

/-- Every point's cluster, as a float. -/
theorem pay10_at (e : FVec Ideal S4096x32 .f32) (c : FVec Ideal S512x32 .f32) (n : Fin 4096) :
    k0_pay10 (F := Ideal) e (k0_pay2 e) k0_pay3 (k0_pay4 c) (ix2 n 0)
      = num (cluster (fun n d => e (ix2 n d)) (fun k d => c (ix2 k d)) n) := by
  pointwise [k0_pay10, k0_pay2, k0_pay3, k0_pay4]
  rw [ofBits_top, ofBits_512]
  simp only [sitofp_ofNat]
  exact fold_index_eq' (score (fun n d => e (ix2 n d)) (fun k d => c (ix2 k d)) n)

/-- The one-hot product at an index: the sum over the points of a cluster, of a coordinate or of 1. -/
theorem onehot_at (e : FVec Ideal S4096x32 .f32) (x : FVec Ideal S4096x1 .f32) (i : Fin 4096 → Fin 512)
    (hx : ∀ n, x (ix2 n 0) = num (i n)) (d : Fin 40) (k : Fin 512) :
    matmul dot_S40x4096_S4096x512_S40x512_1_0_0_1_n_n (some .fp32) (k0_pay1 e)
        (select (cmpf .oeq k0_pay3 (broadcastTo S4096x512 x broadcasts_S4096x1_S4096x512))
          (broadcast S4096x512 (Scalar.ofBits (F := Ideal) .f32 0x3F800000#32))
          (broadcast S4096x512 (Scalar.ofBits .f32 0x00000000#32)))
        (constant S40x512 .f32 0x00000000#32) (ix2 d k)
      = ∑ n, if i n = k then (if h : d.val < 32 then (e (ix2 n ⟨d.val, h⟩) : EReal) else 1) else 0 := by
  pointwise [k0_pay1, k0_pay3]
  refine Finset.sum_congr rfl fun n _ => ?_
  rw [hx, sitofp_ofNat]
  by_cases h : i n = k
  · rw [if_pos h, if_pos (num_inj.mpr h.symm), mul_one]
  · rw [if_neg h, if_neg (fun q => h (num_inj.mp q).symm), mul_zero]

/-- The sums and the sizes, before they are cut apart. -/
theorem pay11_at (e : FVec Ideal S4096x32 .f32) (c : FVec Ideal S512x32 .f32) (d : Fin 40) (k : Fin 512) :
    k0_pay11 (F := Ideal) e (k0_pay2 e) k0_pay3 (k0_pay1 e) (k0_pay4 c) (ix2 d k)
      = ∑ n, if cluster (fun n d => e (ix2 n d)) (fun k d => c (ix2 k d)) n = k
          then (if h : d.val < 32 then (e (ix2 n ⟨d.val, h⟩) : EReal) else 1) else 0 :=
  onehot_at e _ _ (pay10_at e c) d k

/-- The sizes of the clusters. -/
theorem pay12_at (e : FVec Ideal S4096x32 .f32) (c : FVec Ideal S512x32 .f32) (k : Fin 512) :
    k0_pay12 (F := Ideal) e (k0_pay2 e) k0_pay3 (k0_pay1 e) (k0_pay4 c) (ix2 0 k)
      = size (fun n d => e (ix2 n d)) (fun k d => c (ix2 k d)) k := by
  pointwise [k0_pay12]
  exact (pay11_at e c 32 k).trans rfl

/-- The quotient of the sums' rows and the sizes, at an index. -/
theorem quotient_at (a : FVec Ideal S40x512 .f32) (b : FVec Ideal S1x512 .f32) (d : Fin 32) (k : Fin 512) :
    divf (extractStridedSlice S32x512 ![0, 0] a slices_S40x512_o0_0_S32x512)
        (broadcastTo S32x512 (addf b (broadcast S1x512 (Scalar.ofBits (F := Ideal) .f32 0x358637BD#32)))
          broadcasts_S1x512_S32x512) (ix2 d k)
      = Ideal.div (a (ix2 ⟨d.val, d.isLt.trans (by decide)⟩ k)) (b (ix2 0 k) + eps) := by
  pointwise

/-- The new centroids. -/
theorem pay13_at (e : FVec Ideal S4096x32 .f32) (c : FVec Ideal S512x32 .f32) (d : Fin 32) (k : Fin 512) :
    k0_pay13 (F := Ideal) e (k0_pay2 e) k0_pay3 (k0_pay1 e) (k0_pay4 c) (ix2 d k)
      = next (fun n d => e (ix2 n d)) (fun k d => c (ix2 k d)) k d := by
  refine (quotient_at _ _ d k).trans ?_
  rw [pay11_at, pay12_at]
  unfold next total
  refine congrArg (Ideal.div · _) (Finset.sum_congr rfl fun n _ => ?_)
  rw [dif_pos d.isLt]

/-- The least entry of the mask of equal entries, as the kernel takes it. -/
def leastEqual (a b : FVec Ideal S32x512 .f32) : Ideal .f32 :=
  extractAt ![0, 0, 0] (shapeCast S1x1x1 (multiReduction .minimumf [1, 2] S1
    (shapeCast S1x32x512 (select (cmpf .oeq a b) (broadcast S32x512 (Scalar.ofBits (F := Ideal) .f32 0x3F800000#32))
      (broadcast S32x512 (Scalar.ofBits .f32 0x00000000#32))) shapeCasts_S32x512_S1x32x512)
    0x7F800000#32 reduces_S1x32x512_S1 (.inl rfl) rfl) shapeCasts_S1_S1x1x1) inpos_S1x1x1_p0_0_0

theorem leastEqual_eq (a b : FVec Ideal S32x512 .f32) :
    leastEqual a b = Finset.univ.fold min (Ideal.ofBits .f32 0x7F800000#32)
      (fun x : Fin 32 × Fin 512 => if a (ix2 x.1 x.2) = b (ix2 x.1 x.2) then (1 : EReal) else 0) := by
  pointwise [leastEqual]

end Cert.Proof.KMeans
-- ==== Proof.Math.Exit.lean ====
/-
  The kernel's loop stops when a round returns the centroids it was given. From then on every round would return them
  again, so what the loop leaves is what a thousand rounds leave.
-/
module

public import proofs.«01_k».proof.Proof.Math.Kernel

@[expose] public section

set_option maxRecDepth 16384

noncomputable section

namespace Cert.Proof.KMeans

open Cert.KernelIdeal Cert.KernelIdeal.Gen
open Idealize.ShloMosaic

/-- The least entry of the mask is positive exactly when the two arrays are equal. -/
theorem leastEqual_pos (a b : FVec Ideal S32x512 .f32) : (0 : EReal) < leastEqual a b ↔ a = b := by
  rw [leastEqual_eq, ofBits_top, fold_mask_pos]
  constructor
  · intro h
    funext j
    rw [ValueIdx.eq_ix2 j]
    exact h (j 0, j 1)
  · rintro rfl x
    rfl

/-- A loop that carries `c` to `f c`, remembers `g c` and `h c`, and stops once the flag `s c` is raised, which says
    `f c = c`: what it leaves after `n + 1` trips at most is what `n + 1` trips without the flag leave. -/
theorem loop_eq {C X K R : Type} (f : C → C) (g : C → X) (h : C → K) (s : C → BitVec 1) (hs : ∀ c, s c = 1#1 → f c = c)
    (run : ℕ → C → X → K → BitVec 1 → R) (pc : R → C) (px : R → X) (pk : R → K)
    (hrun : ∀ n c x k, run (n + 1) c x k 0#1 = run n (f c) (g c) (h c) (s c))
    (hstop : ∀ n c x k, pc (run n c x k 1#1) = c ∧ px (run n c x k 1#1) = x ∧ pk (run n c x k 1#1) = k)
    (hzero : ∀ c x k b, pc (run 0 c x k b) = c ∧ px (run 0 c x k b) = x ∧ pk (run 0 c x k b) = k) (n : ℕ) :
    ∀ c x k, pc (run (n + 1) c x k 0#1) = f^[n + 1] c ∧ px (run (n + 1) c x k 0#1) = g (f^[n] c)
      ∧ pk (run (n + 1) c x k 0#1) = h (f^[n] c) := by
  induction n with
  | zero =>
    intro c x k
    rw [hrun]
    exact hzero _ _ _ _
  | succ n ih =>
    intro c x k
    rw [hrun]
    by_cases hc : s c = 1#1
    · have hf := hs c hc
      have hn : ∀ m, f^[m] c = c := fun m => Function.iterate_fixed hf m
      rw [hc, hn, hn]
      obtain ⟨h1, h2, h3⟩ := hstop (n + 1) (f c) (g c) (h c)
      exact ⟨h1.trans hf, h2, h3⟩
    · rw [ValueIdx.eq_zero_of_ne_one hc]
      exact ih _ _ _

/-! The loop at any four loop-invariant values. -/

section
variable (v0 : FVec Ideal S4096x32 .f32) (v8 v10 : FVec Ideal S4096x512 .f32) (v3 : FVec Ideal S40x4096 .f32)

theorem pay14_eq (c : FVec Ideal S32x512 .f32) :
    k0_pay14 (F := Ideal) v0 v8 v10 v3 c = leastEqual (k0_pay13 v0 v8 v10 v3 c) c := by
  unfold k0_pay14 leastEqual
  generalize k0_pay13 v0 v8 v10 v3 c = a
  rfl

/-- The flag is raised exactly when a round returns the centroids it was given. -/
theorem same_eq_one (c : FVec Ideal S32x512 .f32) :
    PI.same (F := Ideal) v0 v8 v10 v3 c = 1#1 ↔ k0_pay13 v0 v8 v10 v3 c = c := by
  unfold PI.same
  rw [pay14_eq]
  generalize k0_pay13 v0 v8 v10 v3 c = a
  rw [← leastEqual_pos]
  generalize leastEqual a c = m
  change Ideal.cmp .ogt m (Ideal.ofBits .f32 0x00000000#32) = 1#1 ↔ _
  rw [Ideal.ofBits_zero_f32]
  by_cases h : 0 < m <;> simp [Ideal.cmp, h]

theorem go_run (n : ℕ) (c : FVec Ideal S32x512 .f32) (x : FVec Ideal S4096x1 .f32) (k : FVec Ideal S1x512 .f32) :
    PI.go (F := Ideal) v0 v8 v10 v3 (n + 1) c x k 0#1
      = PI.go (F := Ideal) v0 v8 v10 v3 n (k0_pay13 v0 v8 v10 v3 c) (k0_pay10 v0 v8 v10 c) (k0_pay12 v0 v8 v10 v3 c)
          (PI.same (F := Ideal) v0 v8 v10 v3 c) := by
  rw [PI.go, if_pos rfl]

theorem go_stop (n : ℕ) (c : FVec Ideal S32x512 .f32) (x : FVec Ideal S4096x1 .f32) (k : FVec Ideal S1x512 .f32) :
    (PI.go (F := Ideal) v0 v8 v10 v3 n c x k 1#1).2.1 = c ∧ (PI.go (F := Ideal) v0 v8 v10 v3 n c x k 1#1).2.2.1 = x
      ∧ (PI.go (F := Ideal) v0 v8 v10 v3 n c x k 1#1).2.2.2.1 = k := by
  cases n with
  | zero => rw [PI.go]; exact ⟨rfl, rfl, rfl⟩
  | succ n => rw [PI.go, if_neg (by decide)]; exact ⟨rfl, rfl, rfl⟩

theorem go_zero (c : FVec Ideal S32x512 .f32) (x : FVec Ideal S4096x1 .f32) (k : FVec Ideal S1x512 .f32) (s : BitVec 1) :
    (PI.go (F := Ideal) v0 v8 v10 v3 0 c x k s).2.1 = c ∧ (PI.go (F := Ideal) v0 v8 v10 v3 0 c x k s).2.2.1 = x
      ∧ (PI.go (F := Ideal) v0 v8 v10 v3 0 c x k s).2.2.2.1 = k := by
  rw [PI.go]; exact ⟨rfl, rfl, rfl⟩

/-- What the loop leaves after 1000 trips at most is what 1000 rounds give, the assignments and the sizes those of the
    last round. -/
theorem go_eq (c : FVec Ideal S32x512 .f32) (x : FVec Ideal S4096x1 .f32) (k : FVec Ideal S1x512 .f32) :
    (PI.go (F := Ideal) v0 v8 v10 v3 1000 c x k 0#1).2.1 = (k0_pay13 v0 v8 v10 v3)^[1000] c
      ∧ (PI.go (F := Ideal) v0 v8 v10 v3 1000 c x k 0#1).2.2.1 = k0_pay10 v0 v8 v10 ((k0_pay13 v0 v8 v10 v3)^[999] c)
      ∧ (PI.go (F := Ideal) v0 v8 v10 v3 1000 c x k 0#1).2.2.2.1
        = k0_pay12 v0 v8 v10 v3 ((k0_pay13 v0 v8 v10 v3)^[999] c) := by
  have hrun := go_run v0 v8 v10 v3
  have hstop := go_stop v0 v8 v10 v3
  have hzero := go_zero v0 v8 v10 v3
  have hs := fun c => (same_eq_one v0 v8 v10 v3 c).mp
  generalize PI.go (F := Ideal) v0 v8 v10 v3 = run at hrun hstop hzero ⊢
  generalize PI.same (F := Ideal) v0 v8 v10 v3 = same at hrun hs
  generalize k0_pay13 v0 v8 v10 v3 = f at hrun hs ⊢
  generalize k0_pay10 v0 v8 v10 = g at hrun ⊢
  generalize k0_pay12 v0 v8 v10 v3 = h at hrun ⊢
  exact loop_eq f g h same hs run (fun r => r.2.1) (fun r => r.2.2.1) (fun r => r.2.2.2.1) hrun hstop hzero 999 c x k

end

end Cert.Proof.KMeans
-- ==== Proof.Math.Reference.lean ====
/-
  The reference's round at the extended reals, read at an index: the scores, the cluster of every point, the sums and
  the sizes, the new centroids, and the last row of the two histories after it was written.
-/
module

public import proofs.«01_k».proof.Proof.Ref.Fold
public import proofs.«01_k».proof.Proof.Math.Numbers
public import Idealize.ShloMosaic.Lib.Routing.OpsPair
public import Idealize.ShloMosaic.Lib.WordCmp

@[expose] public section

set_option maxRecDepth 16384

noncomputable section

namespace Cert.Proof.KMeans

open Cert.ReferenceIdeal Cert.ReferenceIdeal.Gen
open Idealize.ShloMosaic

/-- The scores. -/
theorem dists_at (e : FVec Ideal S4096x32 .f32) (c : FVec Ideal S512x32 .f32) (n : Fin 4096) (k : Fin 512) :
    Ref.dists (F := Ideal) e (Ref.lengths e) c (ix2 n k) = score (fun n d => e (ix2 n d)) (fun k d => c (ix2 k d)) n k := by
  pointwise [Ref.dists, Ref.lengths, score]

/-! ### The least score's index -/

/-- The reducer keeps the pair of the smaller score, of two equal scores the pair of the smaller index. -/
theorem reducer_eq (a b : EReal × BitVec 32) :
    reducer_argmin_f32_i32 (F := Ideal) a b = if a.1 < b.1 ∨ a.1 = b.1 ∧ a.2.toInt < b.2.toInt then a else b := by
  obtain ⟨x, i⟩ := a
  obtain ⟨y, j⟩ := b
  have hs : i.slt j = decide (i.toInt < j.toInt) := rfl
  rcases lt_trichotomy x y with h | h | h
  · have h' : x ≠ y := h.ne
    simp [reducer_argmin_f32_i32, Ideal.cmpf_def, Ideal.cmp, IntOp.ori, IntOp.andi, IntOp.cmpi, Scalar.select, h, h']
  · subst h
    by_cases hij : i.toInt < j.toInt <;>
      simp [reducer_argmin_f32_i32, Ideal.cmpf_def, Ideal.cmp, IntOp.ori, IntOp.andi, IntOp.cmpi, Scalar.select, hs, hij]
  · have h' : ¬ x < y := not_lt.mpr h.le
    have h'' : x ≠ y := h.ne'
    simp [reducer_argmin_f32_i32, Ideal.cmpf_def, Ideal.cmp, IntOp.ori, IntOp.andi, IntOp.cmpi, Scalar.select, h', h'']

/-- One pair comes no later than another: a smaller score, or an equal one and an index no larger. -/
def NoLater (a b : EReal × BitVec 32) : Prop := a.1 < b.1 ∨ a.1 = b.1 ∧ a.2.toInt ≤ b.2.toInt

theorem NoLater.refl (a : EReal × BitVec 32) : NoLater a a := Or.inr ⟨rfl, le_rfl⟩

theorem NoLater.trans {a b c : EReal × BitVec 32} (h : NoLater a b) (h' : NoLater b c) : NoLater a c := by
  rcases h with h | ⟨h, hi⟩ <;> rcases h' with h' | ⟨h', hi'⟩
  · exact Or.inl (h.trans h')
  · exact Or.inl (h' ▸ h)
  · exact Or.inl (h ▸ h')
  · exact Or.inr ⟨h.trans h', hi.trans hi'⟩

/-- What the reducer keeps is one of the two pairs and comes no later than either. -/
theorem reducer_spec (a b : EReal × BitVec 32) :
    (reducer_argmin_f32_i32 (F := Ideal) a b = a ∨ reducer_argmin_f32_i32 (F := Ideal) a b = b)
      ∧ NoLater (reducer_argmin_f32_i32 (F := Ideal) a b) a ∧ NoLater (reducer_argmin_f32_i32 (F := Ideal) a b) b := by
  rw [reducer_eq]
  split_ifs with h
  · refine ⟨Or.inl rfl, NoLater.refl a, ?_⟩
    rcases h with h | ⟨h, h'⟩
    · exact Or.inl h
    · exact Or.inr ⟨h, h'.le⟩
  · refine ⟨Or.inr rfl, ?_, NoLater.refl b⟩
    push Not at h
    rcases h.1.lt_or_eq with h1 | h1
    · exact Or.inl h1
    · exact Or.inr ⟨h1, h.2 h1.symm⟩

/-- The fold of a list keeps one of the pairs met, and it comes no later than any of them. -/
theorem fold_spec (l : List (EReal × BitVec 32)) : ∀ a : EReal × BitVec 32,
    (l.foldl (reducer_argmin_f32_i32 (F := Ideal)) a = a ∨ l.foldl (reducer_argmin_f32_i32 (F := Ideal)) a ∈ l)
      ∧ NoLater (l.foldl (reducer_argmin_f32_i32 (F := Ideal)) a) a
      ∧ ∀ p ∈ l, NoLater (l.foldl (reducer_argmin_f32_i32 (F := Ideal)) a) p := by
  induction l with
  | nil => exact fun a => ⟨Or.inl rfl, NoLater.refl a, fun p hp => absurd hp List.not_mem_nil⟩
  | cons b l ih =>
    intro a
    obtain ⟨hm, ha, hl⟩ := ih (reducer_argmin_f32_i32 (F := Ideal) a b)
    obtain ⟨hr, hra, hrb⟩ := reducer_spec a b
    rw [List.foldl_cons]
    refine ⟨?_, ha.trans hra, fun p hp => ?_⟩
    · rcases hm with hm | hm
      · rcases hr with hr | hr
        · exact Or.inl (hm.trans hr)
        · exact Or.inr (List.mem_cons.mpr (Or.inl (hm.trans hr)))
      · exact Or.inr (List.mem_cons_of_mem _ hm)
    · rcases List.mem_cons.mp hp with rfl | hp
      · exact ha.trans hrb
      · exact hl p hp

/-- A fold from plus infinity at index 0 over a list that holds exactly the pairs of a family finds the least index
    at which the family is smallest. -/
theorem fold_least (f : Fin 512 → EReal) (l : List (EReal × BitVec 32))
    (h : ∀ p, p ∈ l ↔ ∃ k, (f k, BitVec.ofNat 32 k.val) = p) :
    (l.foldl (reducer_argmin_f32_i32 (F := Ideal)) (⊤, 0#32)).2 = BitVec.ofNat 32 (least f).val := by
  obtain ⟨hm, _, hl⟩ := fold_spec l (⊤, 0#32)
  generalize l.foldl (reducer_argmin_f32_i32 (F := Ideal)) (⊤, 0#32) = r at hm hl
  have hk : ∀ k, NoLater r (f k, BitVec.ofNat 32 k.val) := fun k => hl _ ((h _).mpr ⟨k, rfl⟩)
  rcases hm with rfl | hm
  · have e : (0 : Fin 512) = least f := by
      refine eq_least f 0 (fun k => ?_) (fun k _ => Fin.zero_le k)
      rcases hk k with hk | ⟨hk, _⟩
      · exact absurd hk not_top_lt
      · have hk' : (⊤ : EReal) = f k := hk
        rw [← hk']
        exact le_top
    rw [← e]; rfl
  · obtain ⟨i, rfl⟩ := (h r).mp hm
    have e : i = least f := by
      refine eq_least f i (fun k => ?_) (fun k hki => ?_)
      · rcases hk k with hk | ⟨hk, _⟩
        · exact hk.le
        · exact hk.le
      · rcases hk k with hk | ⟨_, hk⟩
        · exact absurd hk (not_lt.mpr hki)
        · change (BitVec.ofNat 32 i.val).toInt ≤ (BitVec.ofNat 32 k.val).toInt at hk
          rw [toInt_ofNat, toInt_ofNat] at hk
          exact Fin.le_def.mpr (by omega)
    rw [← e]

/-- The pairs a reduction meets at a result index are those at the source indices that drop to it, `r k` for `k` in `κ`. -/
theorem mem_fiber {α β κ : Type} {s t : Shape} {axes : List (Fin s.rank)} (x : s.Idx → α) (y : s.Idx → β)
    (h : s.ReducesTo axes t) (j : t.Idx) (r : κ → s.Idx) (hr : ∀ i, h.drop i = j ↔ ∃ k, r k = i) (p : α × β) :
    p ∈ Host.argReduceFiber x y h j ↔ ∃ k, (x (r k), y (r k)) = p := by
  unfold Host.argReduceFiber
  rw [List.mem_map]
  constructor
  · rintro ⟨q, hq, rfl⟩
    obtain ⟨k, hk⟩ := (hr _).mp (of_decide_eq_true (List.mem_filter.mp hq).2)
    exact ⟨k, by rw [← hk]⟩
  · rintro ⟨k, rfl⟩
    refine ⟨s.rowMajor (r k), List.mem_filter.mpr ⟨List.mem_finRange _, decide_eq_true ?_⟩, ?_⟩
    · rw [Equiv.symm_apply_apply]
      exact (hr _).mpr ⟨k, rfl⟩
    · rw [Equiv.symm_apply_apply]

/-- The reduction of scores and their indices finds the index of the least score, the source indices that drop to the
    result index being `r k`, each with the index `k`. -/
theorem argmin_at {s t u : Shape} {axes : List (Fin s.rank)} (d : FVec Ideal s .f32) (y : IVec s 32)
    (ix : FVec Ideal u .f32) (iy : IVec u 32) (h : s.ReducesTo axes t) (hu : 0 < u.numel) (j : t.Idx)
    (r : Fin 512 → s.Idx) (hr : ∀ i, h.drop i = j ↔ ∃ k, r k = i) (hy : ∀ k, y (r k) = BitVec.ofNat 32 k.val)
    (hix : ix (Shape.Idx.first hu) = (⊤ : EReal)) (hiy : iy (Shape.Idx.first hu) = 0#32) :
    (Host.argReduce (reducer_argmin_f32_i32 (F := Ideal)) d y ix iy h hu j).2
      = BitVec.ofNat 32 (least fun k => d (r k)).val := by
  rw [Ideal.argReduce_eq_reduce2, Host.reduce2_eq_foldl_fiber, hix, hiy]
  have hm := mem_fiber d y h j r hr
  simp only [hy] at hm
  generalize Host.argReduceFiber d y h j = l at hm ⊢
  exact fold_least (fun k => d (r k)) l hm

/-- A matrix of indices along the rows, at an index. -/
theorem iota_at (n : Fin 4096) (k : Fin 512) : iotaInDim S4096x512 32 1 (ix2 n k) = BitVec.ofNat 32 k.val := by
  pointwise

/-- `Ref.nearest` opened, as a function of the row. -/
theorem nearest_def (d : FVec Ideal S4096x512 .f32) : Ref.nearest (F := Ideal) d = fun j =>
    (Host.argReduce (reducer_argmin_f32_i32 (F := Ideal)) d (iotaInDim S4096x512 32 1) (constant S_ .f32 0x7F800000#32)
      (constantI S_ 32 0#32) reducesTo_S4096x512_S4096_d1 h_S_ j).2 := rfl

/-- The index of the least entry of every row. -/
theorem nearest_at (d : FVec Ideal S4096x512 .f32) (n : Fin 4096) :
    Ref.nearest (F := Ideal) d (ix1 n) = BitVec.ofNat 32 (least fun k => d (ix2 n k)).val := by
  refine (congrFun (nearest_def d) _).trans ?_
  beta_reduce
  exact argmin_at d (iotaInDim S4096x512 32 1) (constant S_ .f32 0x7F800000#32) (constantI S_ 32 0#32)
    reducesTo_S4096x512_S4096_d1 h_S_ (ix1 n) (fun k => ix2 n k) (Shape.ReducesTo.fiber_r2_a1 _ _) (iota_at n)
    ofBits_top rfl

/-- The clusters the reference finds. -/
theorem idxOf_at (e : FVec Ideal S4096x32 .f32) (c : FVec Ideal S512x32 .f32) (n : Fin 4096) :
    Ref.idxOf (F := Ideal) e c (ix1 n)
      = BitVec.ofNat 32 (cluster (fun n d => e (ix2 n d)) (fun k d => c (ix2 k d)) n).val := by
  refine (nearest_at _ n).trans ?_
  unfold cluster
  rw [show (fun k => Ref.dists (F := Ideal) e (Ref.lengths e) c (ix2 n k))
    = score (fun n d => e (ix2 n d)) (fun k d => c (ix2 k d)) n from funext fun k => dists_at e c n k]

/-! ### The sums and the sizes -/

/-- An index that is not negative is not counted from the end. -/
theorem wrapped_at (i : IVec S4096 32) (n : Fin 4096) (k : Fin 512) (h : i (ix1 n) = BitVec.ofNat 32 k.val) :
    Ref.wrapped (F := Ideal) i (ix2 n 0) = BitVec.ofNat 32 k.val := by
  have := k.isLt
  pointwise [Ref.wrapped]
  rw [h]
  exact Routing.wrap_of_lt _ _ (by rw [BitVec.toNat_ofNat]; omega)

/-- Update `(n, d')` of the scatter of points lands at `(k, d)` exactly when its index word is `k` and `d'` is `d`. -/
theorem lands_sums (x : IVec S4096x1 32) (n : Fin 4096) (d' : Fin 32) (k : Fin 512) (d : Fin 32) :
    scatter_S512x32_S4096x1_S4096x32_1_0_0_1.resultIdx? (ix2 n d') x = some (ix2 k d)
      ↔ (x (ix2 n 0)).toInt = (k.val : ℤ) ∧ d' = d := by
  have h0 : scatter_S512x32_S4096x1_S4096x32_1_0_0_1.siIdx (ix2 n d') ⟨0, by decide⟩ = ix2 n 0 := by
    funext a; fin_cases a <;> rfl
  have hs : scatter_S512x32_S4096x1_S4096x32_1_0_0_1.start (ix2 n d') x 0 = (x (ix2 n 0)).toInt := by
    exact congrArg (fun q => (x q).toInt) h0
  have hs1 : scatter_S512x32_S4096x1_S4096x32_1_0_0_1.start (ix2 n d') x 1 = 0 := rfl
  have hw : scatter_S512x32_S4096x1_S4096x32_1_0_0_1.window (ix2 n d') 0 = 0 := rfl
  have hw1 : scatter_S512x32_S4096x1_S4096x32_1_0_0_1.window (ix2 n d') 1 = d'.val := rfl
  rw [Routing.resultIdx?_eq_some]
  constructor
  · intro h
    have g0 := h 0
    have g1 := h 1
    rw [hs, hw] at g0
    rw [hs1, hw1] at g1
    change _ + ((0 : ℕ) : ℤ) = (k.val : ℤ) at g0
    change 0 + (d'.val : ℤ) = (d.val : ℤ) at g1
    exact ⟨by omega, Fin.ext (by omega)⟩
  · rintro ⟨h, rfl⟩ a
    match a with
    | ⟨0, _⟩ =>
      refine (congrArg₂ (fun p (q : ℕ) => p + (q : ℤ)) hs hw).trans ?_
      change (x (ix2 n 0)).toInt + ((0 : ℕ) : ℤ) = (k.val : ℤ)
      omega
    | ⟨1, _⟩ =>
      refine (congrArg₂ (fun p (q : ℕ) => p + (q : ℤ)) hs1 hw1).trans ?_
      change (0 : ℤ) + (d'.val : ℤ) = (d'.val : ℤ)
      omega

/-- Update `n` of the scatter of ones lands at `k` exactly when its index word is `k`. -/
theorem lands_sizes (x : IVec S4096x1 32) (n : Fin 4096) (k : Fin 512) :
    scatter_S512x1_S4096x1_S4096x1_1_0_0_1.resultIdx? (ix2 n 0) x = some (ix2 k 0)
      ↔ (x (ix2 n 0)).toInt = (k.val : ℤ) := by
  have h0 : scatter_S512x1_S4096x1_S4096x1_1_0_0_1.siIdx (ix2 n 0) ⟨0, by decide⟩ = ix2 n 0 := by
    funext a; fin_cases a <;> rfl
  have hs : scatter_S512x1_S4096x1_S4096x1_1_0_0_1.start (ix2 n 0) x 0 = (x (ix2 n 0)).toInt := by
    exact congrArg (fun q => (x q).toInt) h0
  have hs1 : scatter_S512x1_S4096x1_S4096x1_1_0_0_1.start (ix2 n 0) x 1 = 0 := rfl
  have hw : scatter_S512x1_S4096x1_S4096x1_1_0_0_1.window (ix2 n 0) 0 = 0 := rfl
  have hw1 : scatter_S512x1_S4096x1_S4096x1_1_0_0_1.window (ix2 n 0) 1 = 0 := rfl
  rw [Routing.resultIdx?_eq_some]
  constructor
  · intro h
    have g0 := h 0
    rw [hs, hw] at g0
    change _ + ((0 : ℕ) : ℤ) = (k.val : ℤ) at g0
    omega
  · intro h a
    match a with
    | ⟨0, _⟩ =>
      refine (congrArg₂ (fun p (q : ℕ) => p + (q : ℤ)) hs hw).trans ?_
      change (x (ix2 n 0)).toInt + ((0 : ℕ) : ℤ) = (k.val : ℤ)
      omega
    | ⟨1, _⟩ => exact congrArg₂ (fun p (q : ℕ) => p + (q : ℤ)) hs1 hw1

/-- The sum of the points of every cluster. -/
theorem sums_at (e : FVec Ideal S4096x32 .f32) (i : IVec S4096 32) (f : Fin 4096 → Fin 512)
    (hi : ∀ n, i (ix1 n) = BitVec.ofNat 32 (f n).val) (k : Fin 512) (d : Fin 32) :
    Ref.sums (F := Ideal) e i (ix2 k d) = ∑ n, if f n = k then (e (ix2 n d) : EReal) else 0 := by
  have hz : (broadcastInDim S512x32 ![] bcast_S_S512x32 (constant S_ .f32 0x00000000#32) : FVec Ideal S512x32 .f32)
      (ix2 k d) = (0 : EReal) := by pointwise
  change (broadcastInDim S512x32 ![] bcast_S_S512x32 (constant S_ .f32 0x00000000#32) : FVec Ideal S512x32 .f32) (ix2 k d)
    + ∑ j ∈ Finset.univ.filter (fun j => scatter_S512x32_S4096x1_S4096x32_1_0_0_1.resultIdx? j
        (Ref.wrapped (F := Ideal) i) = some (ix2 k d)), (e j : EReal) = _
  rw [hz, zero_add, Finset.sum_filter, ValueIdx.sum_idx2]
  refine Finset.sum_congr rfl fun n _ => ?_
  have hl : ∀ d' : Fin 32, scatter_S512x32_S4096x1_S4096x32_1_0_0_1.resultIdx? (ix2 n d') (Ref.wrapped (F := Ideal) i)
      = some (ix2 k d) ↔ f n = k ∧ d' = d := fun d' => by
    rw [lands_sums, wrapped_at i n (f n) (hi n), toInt_ofNat, Fin.ext_iff]
    omega
  by_cases h : f n = k
  · rw [if_pos h, Finset.sum_eq_single d]
    · exact if_pos ((hl d).mpr ⟨h, rfl⟩)
    · exact fun d' _ hd => if_neg fun q => hd ((hl d').mp q).2
    · exact fun q => absurd (Finset.mem_univ _) q
  · rw [if_neg h]
    exact Finset.sum_eq_zero fun d' _ => if_neg fun q => h ((hl d').mp q).1

/-- The number of points of every cluster. -/
theorem sizes_at (i : IVec S4096 32) (f : Fin 4096 → Fin 512)
    (hi : ∀ n, i (ix1 n) = BitVec.ofNat 32 (f n).val) (k : Fin 512) :
    Ref.sizes (F := Ideal) Ref.ones i (ix2 k 0) = ∑ n, if f n = k then (1 : EReal) else 0 := by
  have hz : (broadcastInDim S512x1 ![] bcast_S_S512x1 (constant S_ .f32 0x00000000#32) : FVec Ideal S512x1 .f32)
      (ix2 k 0) = (0 : EReal) := by pointwise
  have ho : ∀ n : Fin 4096, Ref.ones (F := Ideal) (ix2 n 0) = (1 : EReal) := fun n => by pointwise [Ref.ones]
  change (broadcastInDim S512x1 ![] bcast_S_S512x1 (constant S_ .f32 0x00000000#32) : FVec Ideal S512x1 .f32) (ix2 k 0)
    + ∑ j ∈ Finset.univ.filter (fun j => scatter_S512x1_S4096x1_S4096x1_1_0_0_1.resultIdx? j
        (Ref.wrapped (F := Ideal) i) = some (ix2 k 0)), (Ref.ones (F := Ideal) j : EReal) = _
  rw [hz, zero_add, Finset.sum_filter, ValueIdx.sum_idx2]
  refine Finset.sum_congr rfl fun n _ => ?_
  have hl : scatter_S512x1_S4096x1_S4096x1_1_0_0_1.resultIdx? (ix2 n 0) (Ref.wrapped (F := Ideal) i)
      = some (ix2 k 0) ↔ f n = k := by
    rw [lands_sizes, wrapped_at i n (f n) (hi n), toInt_ofNat, Fin.ext_iff]
    omega
  refine (Fin.sum_univ_one _).trans ?_
  by_cases h : f n = k
  · rw [if_pos h]
    exact (if_pos (hl.mpr h)).trans (ho n)
  · rw [if_neg h]
    exact if_neg fun q => h (hl.mp q)

/-- The sizes of the clusters the reference finds. -/
theorem sizesOf_at (e : FVec Ideal S4096x32 .f32) (c : FVec Ideal S512x32 .f32) (k : Fin 512) :
    Ref.sizesOf (F := Ideal) e c (ix2 k 0) = size (fun n d => e (ix2 n d)) (fun k d => c (ix2 k d)) k :=
  sizes_at _ _ (idxOf_at e c) k

/-- The quotient of sums and sizes. -/
theorem means_at (s : FVec Ideal S512x32 .f32) (m : FVec Ideal S512x1 .f32) (k : Fin 512) (d : Fin 32) :
    Ref.means (F := Ideal) s m (ix2 k d) = Ideal.div (s (ix2 k d)) (m (ix2 k 0) + eps) := by
  pointwise [Ref.means]

/-- The new centroids. -/
theorem centsOf_at (e : FVec Ideal S4096x32 .f32) (c : FVec Ideal S512x32 .f32) (k : Fin 512) (d : Fin 32) :
    Ref.centsOf (F := Ideal) e c (ix2 k d) = next (fun n d => e (ix2 n d)) (fun k d => c (ix2 k d)) k d := by
  refine (means_at _ _ k d).trans ?_
  rw [sums_at _ _ _ (idxOf_at e c), sizesOf_at]
  rfl

/-! ### The histories' last row -/

/-- Row 999 of the assignments' history is what was written there. -/
theorem lastI_putI (h : IVec S1000x4096 32) (i : IVec S4096 32) :
    Ref.lastI (F := Ideal) (Ref.putI (F := Ideal) h i (fun _ => Scf.iv 0#32 1#32 999)) = i := by
  funext j
  rw [ValueIdx.eq_ix1 j]
  unfold Ref.putI
  rw [WordCmp.dynamicUpdateSlice_eq_update _ _ _ _ ![999, 0] (by decide) (fun a => by fin_cases a <;> rfl)]
  pointwise [Ref.lastI]

/-- Row 999 of the sizes' history is what was written there. -/
theorem lastN_putN (h : FVec Ideal S1000x512x1 .f32) (i : FVec Ideal S512x1 .f32) :
    Ref.lastN (F := Ideal) (Ref.putN (F := Ideal) h i (fun _ => Scf.iv 0#32 1#32 999)) = i := by
  funext j
  have hj : ∀ k : Fin 1, k = 0 := fun k => Subsingleton.elim _ _
  obtain ⟨k, rfl⟩ : ∃ k : Fin 512, j = ix2 k 0 :=
    ⟨j 0, (ValueIdx.eq_ix2 j).trans (congrArg (ValueIdx.ix2 (j 0)) (hj _))⟩
  unfold Ref.putN
  rw [WordCmp.dynamicUpdateSlice_eq_update _ _ _ _ ![999, 0, 0] (by decide) (fun a => by fin_cases a <;> rfl)]
  pointwise [Ref.lastN]

end Cert.Proof.KMeans
-- ==== Proof.Math.Equal.lean ====
/-
  The kernel's three results are the reference's: one round of the kernel on the transposed centroids is the transpose
  of one round of the reference, so a thousand rounds agree, and so do the last round's assignments and sizes.
-/
module

public import proofs.«01_k».proof.Proof.Math.Exit
public import proofs.«01_k».proof.Proof.Math.Reference

@[expose] public section

set_option maxRecDepth 16384

noncomputable section

namespace Cert.Proof.KMeans

open Cert.KernelIdeal Cert.KernelIdeal.Gen
open Idealize.ShloMosaic

/-- The transposed centroids at an index. -/
theorem pay4_at (c : FVec Ideal S512x32 .f32) (d : Fin 32) (k : Fin 512) :
    k0_pay4 (F := Ideal) c (ix2 d k) = c (ix2 k d) := by
  pointwise [k0_pay4]

/-- Transposed back at an index. -/
theorem pay7_at (c : FVec Ideal S32x512 .f32) (k : Fin 512) (d : Fin 32) :
    k0_pay7 (F := Ideal) c (ix2 k d) = c (ix2 d k) := by
  pointwise [k0_pay7]

/-- The assignments as words, at an index. -/
theorem pay8_at (x : FVec Ideal S4096x1 .f32) (n : Fin 4096) :
    shapeCast S4096 (k0_pay8 (F := Ideal) x) shapeCasts_S4096x1_S4096 (ix1 n) = Ideal.fptosi 32 (x (ix2 n 0)) := by
  pointwise [k0_pay8]
  rfl

/-- The sizes as a column, at an index. -/
theorem pay9_at (k : FVec Ideal S1x512 .f32) (i : Fin 512) :
    k0_pay9 (F := Ideal) k (ix2 i 0) = k (ix2 0 i) := by
  pointwise [k0_pay9]

variable (e : FVec Ideal S4096x32 .f32)

/-- One round of the kernel is one of the reference. -/
theorem round_eq (c : FVec Ideal S512x32 .f32) :
    k0_pay13 (F := Ideal) e (k0_pay2 e) k0_pay3 (k0_pay1 e) (k0_pay4 c) = k0_pay4 (Ref.centsOf (F := Ideal) e c) := by
  funext j
  have hj : j = ix2 (j 0) (j 1) := (ValueIdx.eq_ix2 j).trans (ix2_eq_valueIdx (n0 := 32) (n1 := 512) (j 0) (j 1)).symm
  rw [hj]
  exact (pay13_at e c (j 0) (j 1)).trans ((centsOf_at e c (j 1) (j 0)).symm.trans (pay4_at _ (j 0) (j 1)).symm)

/-- Any number of rounds. -/
theorem rounds_eq (c : FVec Ideal S512x32 .f32) (n : ℕ) :
    (k0_pay13 (F := Ideal) e (k0_pay2 e) k0_pay3 (k0_pay1 e))^[n] (k0_pay4 c)
      = k0_pay4 ((Ref.centsOf (F := Ideal) e)^[n] c) := by
  have h := round_eq e
  generalize k0_pay13 (F := Ideal) e (k0_pay2 e) k0_pay3 (k0_pay1 e) = f at h ⊢
  generalize Ref.centsOf (F := Ideal) e = g at h ⊢
  generalize (k0_pay4 (F := Ideal)) = t at h ⊢
  have hs : Function.Semiconj t g f := fun c => (h c).symm
  exact ((hs.iterate_right n) c).symm

/-- The kernel's centroids are the reference's after 1000 rounds. -/
theorem outC_eq (c : FVec Ideal S512x32 .f32) : PI.outC (F := Ideal) e c = (Ref.centsOf (F := Ideal) e)^[1000] c := by
  unfold PI.outC PI.fin
  rw [(go_eq e (k0_pay2 e) k0_pay3 (k0_pay1 e) (k0_pay4 c) k0_pay5 k0_pay6).1, rounds_eq]
  generalize (Ref.centsOf (F := Ideal) e)^[1000] c = c'
  funext j
  have hj : j = ix2 (j 0) (j 1) := (ValueIdx.eq_ix2 j).trans (ix2_eq_valueIdx (n0 := 512) (n1 := 32) (j 0) (j 1)).symm
  rw [hj]
  exact (pay7_at _ (j 0) (j 1)).trans (pay4_at _ (j 1) (j 0))

/-- The kernel's assignments are those the reference finds in its last round. -/
theorem outI_eq (c : FVec Ideal S512x32 .f32) :
    shapeCast S4096 (PI.outI (F := Ideal) e c) shapeCasts_S4096x1_S4096
      = Ref.idxOf (F := Ideal) e ((Ref.centsOf (F := Ideal) e)^[999] c) := by
  unfold PI.outI PI.fin
  rw [(go_eq e (k0_pay2 e) k0_pay3 (k0_pay1 e) (k0_pay4 c) k0_pay5 k0_pay6).2.1, rounds_eq]
  generalize (Ref.centsOf (F := Ideal) e)^[999] c = c'
  funext j
  have hj : j = ix1 (j 0) := (ValueIdx.eq_ix1 j).trans (ix1_eq_valueIdx (n0 := 4096) (j 0)).symm
  rw [hj]
  refine (pay8_at _ (j 0)).trans ?_
  exact (congrArg (Ideal.fptosi 32) (pay10_at e c' (j 0))).trans ((fptosi_num _).trans (idxOf_at e c' (j 0)).symm)

/-- The kernel's sizes are those the reference finds in its last round. -/
theorem outN_eq (c : FVec Ideal S512x32 .f32) :
    PI.outN (F := Ideal) e c = Ref.sizesOf (F := Ideal) e ((Ref.centsOf (F := Ideal) e)^[999] c) := by
  unfold PI.outN PI.fin
  rw [(go_eq e (k0_pay2 e) k0_pay3 (k0_pay1 e) (k0_pay4 c) k0_pay5 k0_pay6).2.2, rounds_eq]
  generalize (Ref.centsOf (F := Ideal) e)^[999] c = c'
  funext j
  have h0 : ∀ k : Fin 1, k = 0 := fun k => Subsingleton.elim _ _
  obtain ⟨k, rfl⟩ : ∃ k : Fin 512, j = ix2 k 0 :=
    ⟨j 0, (ValueIdx.eq_ix2 j).trans (congrArg (ValueIdx.ix2 (j 0)) (h0 _))⟩
  exact (pay9_at _ k).trans ((pay12_at e c' k).trans (sizesOf_at e c' k).symm)

/-! ### The reference's loop -/

open Ref in
/-- The centroids after `n` trips. -/
theorem rounds_cents (s : State Ideal) (n : ℕ) : (rounds (F := Ideal) e s n).cents = (centsOf (F := Ideal) e)^[n] s.cents := by
  induction n with
  | zero => rfl
  | succ n ih =>
    have h : (rounds (F := Ideal) e s (n + 1)).cents = centsOf (F := Ideal) e (rounds (F := Ideal) e s n).cents := rfl
    rw [h, ih, Function.iterate_succ_apply']

open Ref in
/-- The last row of the assignments' history after 1000 trips. -/
theorem rounds_I (s : State Ideal) :
    lastI (rounds (F := Ideal) e s 1000).histI = idxOf (F := Ideal) e ((centsOf (F := Ideal) e)^[999] s.cents) := by
  rw [← rounds_cents]
  exact lastI_putI (rounds (F := Ideal) e s 999).histI _

open Ref in
/-- The last row of the sizes' history after 1000 trips. -/
theorem rounds_N (s : State Ideal) :
    lastN (rounds (F := Ideal) e s 1000).histN = sizesOf (F := Ideal) e ((centsOf (F := Ideal) e)^[999] s.cents) := by
  rw [← rounds_cents]
  exact lastN_putN (rounds (F := Ideal) e s 999).histN _

end Cert.Proof.KMeans
-- ==== Proof.lean ====
/-
  The claims, put together from the runs of the kernel (`P`, `PI`) and of the reference (`Ref`).
-/
module

public import proofs.«01_k».proof.Defs
public import proofs.«01_k».proof.Proof.P.Run
public import proofs.«01_k».proof.Proof.PI.Run
public import proofs.«01_k».proof.Proof.Ref.Fold
public import proofs.«01_k».proof.Proof.Math.Equal
public import Idealize.ShloMosaic.Adequacy
public import Idealize.ShloMosaic.Init

@[expose] public section

noncomputable section

namespace Cert.Proof

open Idealize.ShloMosaic Idealize.SL.Sem

/-- The kernel runs to the end, leaves its arguments as they were and every semaphore at zero. -/
theorem frame_kernel : Cert.quiescent_Kernel (hKernel := Cert.Kernel.Gen.facts) := fun m g _ =>
  (Cert.Proof.P.run_main m g).mono fun _ h => ⟨fun c => (h.1 c).2.2.2, h.2⟩

/-- So does the kernel read at the extended reals. -/
theorem frame_kernelIdeal : Cert.quiescent_KernelIdeal (hKernelIdeal := Cert.KernelIdeal.Gen.facts) := fun m g _ =>
  (Cert.Proof.PI.run_main m g).mono fun _ h => ⟨fun c => (h.1 c).2.2.2, h.2⟩

/-- So does the reference. -/
theorem frame_reference : Cert.quiescent_ReferenceIdeal (hReferenceIdeal := Cert.ReferenceIdeal.Gen.facts) :=
  fun m g _ => (Cert.Proof.Ref.run_main m g).mono fun _ h =>
    ⟨fun c => by obtain ⟨_, _, hp⟩ := h.1 c; exact ⟨hp.arg0, hp.arg1⟩, h.2⟩

/-- From equal arguments the kernel and the reference, read at the extended reals, end with the same centroids, the same
    assignments and the same sizes: those of 1000 rounds. -/
theorem algebraic : Cert.algebraic_KernelIdeal_ReferenceIdeal (hKernelIdeal := Cert.KernelIdeal.Gen.facts)
    (hReferenceIdeal := Cert.ReferenceIdeal.Gen.facts) := fun m g m' g' _ hm =>
  ⟨fun c => (Ref.centsOf (F := Ideal) (PI.pts m c))^[1000] (PI.cen m c),
    fun c => Ref.idxOf (F := Ideal) (PI.pts m c) ((Ref.centsOf (F := Ideal) (PI.pts m c))^[999] (PI.cen m c)),
    fun c => Ref.sizesOf (F := Ideal) (PI.pts m c) ((Ref.centsOf (F := Ideal) (PI.pts m c))^[999] (PI.cen m c)),
    (PI.run_main m g).mono fun _ h c =>
      ⟨(h.1 c).1.trans (KMeans.outC_eq _ _), (h.1 c).2.1.trans (KMeans.outI_eq _ _),
        (h.1 c).2.2.1.trans (KMeans.outN_eq _ _), (h.1 c).2.2.2⟩,
    (Ref.run_main m' g').mono fun _ h c => by
      obtain ⟨hI, hN, hp⟩ := h.1 c
      have he : Ref.pts m' c = PI.pts m c := (hm c).1
      have hc : Ref.cen m' c = PI.cen m c := (hm c).2
      refine ⟨hp.cents.trans ?_, hp.idx.trans ?_, hp.sizes.trans ?_, hp.arg0, hp.arg1⟩
      · rw [KMeans.rounds_cents, he, hc]
      · rw [KMeans.rounds_I, he, hc]
      · rw [KMeans.rounds_N, he, hc]⟩

/-- Everything claimed. -/
theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
